-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![8192, 2048]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 2048]⟩ ⟨2, ![8192, 2048]⟩ (Layout.meshBlock [2, 4, 4] ![[2], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048 : Shape := ⟨1, ![2048]⟩
abbrev S2x2048 : Shape := ⟨2, ![2, 2048]⟩
abbrev S4x256x2048 : Shape := ⟨3, ![4, 256, 2048]⟩
abbrev S7x2x2048 : Shape := ⟨3, ![7, 2, 2048]⟩
abbrev S7 : Shape := ⟨1, ![7]⟩
abbrev S8 : Shape := ⟨1, ![8]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S1x2x2048 : Shape := ⟨3, ![1, 2, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2x2048, .f32⟩
  | .local _ .vmem, ⟨0, _⟩ => ⟨S2x2048, .f32⟩
  | .local _ .vmem, ⟨1, _⟩ => ⟨S4x256x2048, .f32⟩
  | .local _ .vmem, ⟨2, _⟩ => ⟨S4x256x2048, .f32⟩
  | .local _ .vmem, ⟨3, _⟩ => ⟨S2x2048, .f32⟩
  | .local _ .vmem, ⟨4, _⟩ => ⟨S7x2x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v10 : BitVec 32 := Scalar.addi v2 c0_i32
  let c2_i32_2 : BitVec 32 := 2#32
  let c0_i32_3 : BitVec 32 := 0#32
  let v11 : BitVec 1 := Scalar.cmpi .eq c2_i32_2 c0_i32_3
  let c1_i32_4 : BitVec 32 := 1#32
  let v12 : BitVec 32 := Scalar.select v11 c1_i32_4 c2_i32_2
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c16_i32_16 : BitVec 32 := 16#32
  let v32 : BitVec 32 := Scalar.muli v20 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.addi v8 c1_i32_8
  let c4_i32_9 : BitVec 32 := 4#32
  let c0_i32_10 : BitVec 32 := 0#32
  let v22 : BitVec 1 := Scalar.cmpi .eq c4_i32_9 c0_i32_10
  let c1_i32_11 : BitVec 32 := 1#32
  let v23 : BitVec 32 := Scalar.select v22 c1_i32_11 c4_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let c1_i32_19 : BitVec 32 := 1#32
  let v36 : BitVec 32 := Scalar.muli v31 c1_i32_19
  let v37 : BitVec 32 := Scalar.addi v35 v36
  v37.toNat
def k0_dev2 (d0 : Dev nD) : Nat :=
  let c0_i32_36 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_20 : BitVec 32 := 0#32
  let v38 : BitVec 32 := Scalar.addi v2 c0_i32_20
  let c2_i32_21 : BitVec 32 := 2#32
  let c0_i32_22 : BitVec 32 := 0#32
  let v39 : BitVec 1 := Scalar.cmpi .eq c2_i32_21 c0_i32_22
  let c1_i32_23 : BitVec 32 := 1#32
  let v40 : BitVec 32 := Scalar.select v39 c1_i32_23 c2_i32_21
  let v41 : BitVec 32 := Scalar.remsi v38 v40
  let c0_i32_25 : BitVec 32 := 0#32
  let v43 : BitVec 1 := Scalar.cmpi .slt v41 c0_i32_25
  let c0_i32_26 : BitVec 32 := 0#32
  let v44 : BitVec 1 := Scalar.cmpi .slt v40 c0_i32_26
  let v45 : BitVec 1 := Scalar.xori v43 v44
  let c0_i32_24 : BitVec 32 := 0#32
  let v42 : BitVec 1 := Scalar.cmpi .ne v41 c0_i32_24
  let v46 : BitVec 1 := Scalar.andi v45 v42
  let v47 : BitVec 32 := Scalar.addi v41 v40
  let v48 : BitVec 32 := Scalar.select v46 v47 v41
  let c16_i32_35 : BitVec 32 := 16#32
  let v60 : BitVec 32 := Scalar.muli v48 c16_i32_35
  let v61 : BitVec 32 := Scalar.addi c0_i32_36 v60
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_37 : BitVec 32 := 4#32
  let v62 : BitVec 32 := Scalar.muli v5 c4_i32_37
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_27 : BitVec 32 := 2#32
  let v49 : BitVec 32 := Scalar.addi v8 c2_i32_27
  let c4_i32_28 : BitVec 32 := 4#32
  let c0_i32_29 : BitVec 32 := 0#32
  let v50 : BitVec 1 := Scalar.cmpi .eq c4_i32_28 c0_i32_29
  let c1_i32_30 : BitVec 32 := 1#32
  let v51 : BitVec 32 := Scalar.select v50 c1_i32_30 c4_i32_28
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  let c1_i32_38 : BitVec 32 := 1#32
  let v64 : BitVec 32 := Scalar.muli v59 c1_i32_38
  let v65 : BitVec 32 := Scalar.addi v63 v64
  v65.toNat
def k0_dev3 (d0 : Dev nD) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_39 : BitVec 32 := 0#32
  let v66 : BitVec 32 := Scalar.addi v2 c0_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c16_i32_53 : BitVec 32 := 16#32
  let v88 : BitVec 32 := Scalar.muli v76 c16_i32_53
  let v89 : BitVec 32 := Scalar.addi c0_i32_54 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v90 : BitVec 32 := Scalar.muli v5 c4_i32_55
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v77 : BitVec 32 := Scalar.addi v8 c3_i32
  let c4_i32_46 : BitVec 32 := 4#32
  let c0_i32_47 : BitVec 32 := 0#32
  let v78 : BitVec 1 := Scalar.cmpi .eq c4_i32_46 c0_i32_47
  let c1_i32_48 : BitVec 32 := 1#32
  let v79 : BitVec 32 := Scalar.select v78 c1_i32_48 c4_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c1_i32_56 : BitVec 32 := 1#32
  let v92 : BitVec 32 := Scalar.muli v87 c1_i32_56
  let v93 : BitVec 32 := Scalar.addi v91 v92
  v93.toNat
def k0_dev4 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_57 : BitVec 32 := 1#32
  let v94 : BitVec 32 := Scalar.addi v2 c1_i32_57
  let c2_i32_58 : BitVec 32 := 2#32
  let c0_i32_59 : BitVec 32 := 0#32
  let v95 : BitVec 1 := Scalar.cmpi .eq c2_i32_58 c0_i32_59
  let c1_i32_60 : BitVec 32 := 1#32
  let v96 : BitVec 32 := Scalar.select v95 c1_i32_60 c2_i32_58
  let v97 : BitVec 32 := Scalar.remsi v94 v96
  let c0_i32_62 : BitVec 32 := 0#32
  let v99 : BitVec 1 := Scalar.cmpi .slt v97 c0_i32_62
  let c0_i32_63 : BitVec 32 := 0#32
  let v100 : BitVec 1 := Scalar.cmpi .slt v96 c0_i32_63
  let v101 : BitVec 1 := Scalar.xori v99 v100
  let c0_i32_61 : BitVec 32 := 0#32
  let v98 : BitVec 1 := Scalar.cmpi .ne v97 c0_i32_61
  let v102 : BitVec 1 := Scalar.andi v101 v98
  let v103 : BitVec 32 := Scalar.addi v97 v96
  let v104 : BitVec 32 := Scalar.select v102 v103 v97
  let c16_i32_72 : BitVec 32 := 16#32
  let v116 : BitVec 32 := Scalar.muli v104 c16_i32_72
  let v117 : BitVec 32 := Scalar.addi c0_i32_73 v116
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_74 : BitVec 32 := 4#32
  let v118 : BitVec 32 := Scalar.muli v5 c4_i32_74
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_64 : BitVec 32 := 0#32
  let v105 : BitVec 32 := Scalar.addi v8 c0_i32_64
  let c4_i32_65 : BitVec 32 := 4#32
  let c0_i32_66 : BitVec 32 := 0#32
  let v106 : BitVec 1 := Scalar.cmpi .eq c4_i32_65 c0_i32_66
  let c1_i32_67 : BitVec 32 := 1#32
  let v107 : BitVec 32 := Scalar.select v106 c1_i32_67 c4_i32_65
  let v108 : BitVec 32 := Scalar.remsi v105 v107
  let c0_i32_69 : BitVec 32 := 0#32
  let v110 : BitVec 1 := Scalar.cmpi .slt v108 c0_i32_69
  let c0_i32_70 : BitVec 32 := 0#32
  let v111 : BitVec 1 := Scalar.cmpi .slt v107 c0_i32_70
  let v112 : BitVec 1 := Scalar.xori v110 v111
  let c0_i32_68 : BitVec 32 := 0#32
  let v109 : BitVec 1 := Scalar.cmpi .ne v108 c0_i32_68
  let v113 : BitVec 1 := Scalar.andi v112 v109
  let v114 : BitVec 32 := Scalar.addi v108 v107
  let v115 : BitVec 32 := Scalar.select v113 v114 v108
  let c1_i32_75 : BitVec 32 := 1#32
  let v120 : BitVec 32 := Scalar.muli v115 c1_i32_75
  let v121 : BitVec 32 := Scalar.addi v119 v120
  v121.toNat
def k0_dev5 (d0 : Dev nD) : Nat :=
  let c0_i32_92 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_76 : BitVec 32 := 1#32
  let v122 : BitVec 32 := Scalar.addi v2 c1_i32_76
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let c16_i32_91 : BitVec 32 := 16#32
  let v144 : BitVec 32 := Scalar.muli v132 c16_i32_91
  let v145 : BitVec 32 := Scalar.addi c0_i32_92 v144
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_93 : BitVec 32 := 4#32
  let v146 : BitVec 32 := Scalar.muli v5 c4_i32_93
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v133 : BitVec 32 := Scalar.addi v8 c1_i32_83
  let c4_i32_84 : BitVec 32 := 4#32
  let c0_i32_85 : BitVec 32 := 0#32
  let v134 : BitVec 1 := Scalar.cmpi .eq c4_i32_84 c0_i32_85
  let c1_i32_86 : BitVec 32 := 1#32
  let v135 : BitVec 32 := Scalar.select v134 c1_i32_86 c4_i32_84
  let v136 : BitVec 32 := Scalar.remsi v133 v135
  let c0_i32_88 : BitVec 32 := 0#32
  let v138 : BitVec 1 := Scalar.cmpi .slt v136 c0_i32_88
  let c0_i32_89 : BitVec 32 := 0#32
  let v139 : BitVec 1 := Scalar.cmpi .slt v135 c0_i32_89
  let v140 : BitVec 1 := Scalar.xori v138 v139
  let c0_i32_87 : BitVec 32 := 0#32
  let v137 : BitVec 1 := Scalar.cmpi .ne v136 c0_i32_87
  let v141 : BitVec 1 := Scalar.andi v140 v137
  let v142 : BitVec 32 := Scalar.addi v136 v135
  let v143 : BitVec 32 := Scalar.select v141 v142 v136
  let c1_i32_94 : BitVec 32 := 1#32
  let v148 : BitVec 32 := Scalar.muli v143 c1_i32_94
  let v149 : BitVec 32 := Scalar.addi v147 v148
  v149.toNat
def k0_dev6 (d0 : Dev nD) : Nat :=
  let c0_i32_111 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_95 : BitVec 32 := 1#32
  let v150 : BitVec 32 := Scalar.addi v2 c1_i32_95
  let c2_i32_96 : BitVec 32 := 2#32
  let c0_i32_97 : BitVec 32 := 0#32
  let v151 : BitVec 1 := Scalar.cmpi .eq c2_i32_96 c0_i32_97
  let c1_i32_98 : BitVec 32 := 1#32
  let v152 : BitVec 32 := Scalar.select v151 c1_i32_98 c2_i32_96
  let v153 : BitVec 32 := Scalar.remsi v150 v152
  let c0_i32_100 : BitVec 32 := 0#32
  let v155 : BitVec 1 := Scalar.cmpi .slt v153 c0_i32_100
  let c0_i32_101 : BitVec 32 := 0#32
  let v156 : BitVec 1 := Scalar.cmpi .slt v152 c0_i32_101
  let v157 : BitVec 1 := Scalar.xori v155 v156
  let c0_i32_99 : BitVec 32 := 0#32
  let v154 : BitVec 1 := Scalar.cmpi .ne v153 c0_i32_99
  let v158 : BitVec 1 := Scalar.andi v157 v154
  let v159 : BitVec 32 := Scalar.addi v153 v152
  let v160 : BitVec 32 := Scalar.select v158 v159 v153
  let c16_i32_110 : BitVec 32 := 16#32
  let v172 : BitVec 32 := Scalar.muli v160 c16_i32_110
  let v173 : BitVec 32 := Scalar.addi c0_i32_111 v172
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_112 : BitVec 32 := 4#32
  let v174 : BitVec 32 := Scalar.muli v5 c4_i32_112
  let v175 : BitVec 32 := Scalar.addi v173 v174
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_102 : BitVec 32 := 2#32
  let v161 : BitVec 32 := Scalar.addi v8 c2_i32_102
  let c4_i32_103 : BitVec 32 := 4#32
  let c0_i32_104 : BitVec 32 := 0#32
  let v162 : BitVec 1 := Scalar.cmpi .eq c4_i32_103 c0_i32_104
  let c1_i32_105 : BitVec 32 := 1#32
  let v163 : BitVec 32 := Scalar.select v162 c1_i32_105 c4_i32_103
  let v164 : BitVec 32 := Scalar.remsi v161 v163
  let c0_i32_107 : BitVec 32 := 0#32
  let v166 : BitVec 1 := Scalar.cmpi .slt v164 c0_i32_107
  let c0_i32_108 : BitVec 32 := 0#32
  let v167 : BitVec 1 := Scalar.cmpi .slt v163 c0_i32_108
  let v168 : BitVec 1 := Scalar.xori v166 v167
  let c0_i32_106 : BitVec 32 := 0#32
  let v165 : BitVec 1 := Scalar.cmpi .ne v164 c0_i32_106
  let v169 : BitVec 1 := Scalar.andi v168 v165
  let v170 : BitVec 32 := Scalar.addi v164 v163
  let v171 : BitVec 32 := Scalar.select v169 v170 v164
  let c1_i32_113 : BitVec 32 := 1#32
  let v176 : BitVec 32 := Scalar.muli v171 c1_i32_113
  let v177 : BitVec 32 := Scalar.addi v175 v176
  v177.toNat
def k0_dev7 (d0 : Dev nD) : Nat :=
  let c0_i32_130 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_114 : BitVec 32 := 1#32
  let v178 : BitVec 32 := Scalar.addi v2 c1_i32_114
  let c2_i32_115 : BitVec 32 := 2#32
  let c0_i32_116 : BitVec 32 := 0#32
  let v179 : BitVec 1 := Scalar.cmpi .eq c2_i32_115 c0_i32_116
  let c1_i32_117 : BitVec 32 := 1#32
  let v180 : BitVec 32 := Scalar.select v179 c1_i32_117 c2_i32_115
  let v181 : BitVec 32 := Scalar.remsi v178 v180
  let c0_i32_119 : BitVec 32 := 0#32
  let v183 : BitVec 1 := Scalar.cmpi .slt v181 c0_i32_119
  let c0_i32_120 : BitVec 32 := 0#32
  let v184 : BitVec 1 := Scalar.cmpi .slt v180 c0_i32_120
  let v185 : BitVec 1 := Scalar.xori v183 v184
  let c0_i32_118 : BitVec 32 := 0#32
  let v182 : BitVec 1 := Scalar.cmpi .ne v181 c0_i32_118
  let v186 : BitVec 1 := Scalar.andi v185 v182
  let v187 : BitVec 32 := Scalar.addi v181 v180
  let v188 : BitVec 32 := Scalar.select v186 v187 v181
  let c16_i32_129 : BitVec 32 := 16#32
  let v200 : BitVec 32 := Scalar.muli v188 c16_i32_129
  let v201 : BitVec 32 := Scalar.addi c0_i32_130 v200
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_131 : BitVec 32 := 4#32
  let v202 : BitVec 32 := Scalar.muli v5 c4_i32_131
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_121 : BitVec 32 := 3#32
  let v189 : BitVec 32 := Scalar.addi v8 c3_i32_121
  let c4_i32_122 : BitVec 32 := 4#32
  let c0_i32_123 : BitVec 32 := 0#32
  let v190 : BitVec 1 := Scalar.cmpi .eq c4_i32_122 c0_i32_123
  let c1_i32_124 : BitVec 32 := 1#32
  let v191 : BitVec 32 := Scalar.select v190 c1_i32_124 c4_i32_122
  let v192 : BitVec 32 := Scalar.remsi v189 v191
  let c0_i32_126 : BitVec 32 := 0#32
  let v194 : BitVec 1 := Scalar.cmpi .slt v192 c0_i32_126
  let c0_i32_127 : BitVec 32 := 0#32
  let v195 : BitVec 1 := Scalar.cmpi .slt v191 c0_i32_127
  let v196 : BitVec 1 := Scalar.xori v194 v195
  let c0_i32_125 : BitVec 32 := 0#32
  let v193 : BitVec 1 := Scalar.cmpi .ne v192 c0_i32_125
  let v197 : BitVec 1 := Scalar.andi v196 v193
  let v198 : BitVec 32 := Scalar.addi v192 v191
  let v199 : BitVec 32 := Scalar.select v197 v198 v192
  let c1_i32_132 : BitVec 32 := 1#32
  let v204 : BitVec 32 := Scalar.muli v199 c1_i32_132
  let v205 : BitVec 32 := Scalar.addi v203 v204
  v205.toNat
def k0_off1 (d0 : Dev nD) (c0_i32_133 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v206 : BitVec 32 := Scalar.muli v2 c1024_i32
  let v207 : BitVec 32 := Scalar.addi v206 c0_i32_133
  let c0_i32_139 : BitVec 32 := 0#32
  ![v207.toNat, 0]
def k0_dev8 (d0 : Dev nD) : Nat :=
  let c0_i32_284 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_266 : BitVec 32 := 0#32
  let v407 : BitVec 32 := Scalar.addi v2 c0_i32_266
  let c2_i32_267 : BitVec 32 := 2#32
  let c0_i32_268 : BitVec 32 := 0#32
  let v408 : BitVec 1 := Scalar.cmpi .eq c2_i32_267 c0_i32_268
  let c1_i32_269 : BitVec 32 := 1#32
  let v409 : BitVec 32 := Scalar.select v408 c1_i32_269 c2_i32_267
  let v410 : BitVec 32 := Scalar.remsi v407 v409
  let c0_i32_271 : BitVec 32 := 0#32
  let v412 : BitVec 1 := Scalar.cmpi .slt v410 c0_i32_271
  let c0_i32_272 : BitVec 32 := 0#32
  let v413 : BitVec 1 := Scalar.cmpi .slt v409 c0_i32_272
  let v414 : BitVec 1 := Scalar.xori v412 v413
  let c0_i32_270 : BitVec 32 := 0#32
  let v411 : BitVec 1 := Scalar.cmpi .ne v410 c0_i32_270
  let v415 : BitVec 1 := Scalar.andi v414 v411
  let v416 : BitVec 32 := Scalar.addi v410 v409
  let v417 : BitVec 32 := Scalar.select v415 v416 v410
  let c16_i32_283 : BitVec 32 := 16#32
  let v429 : BitVec 32 := Scalar.muli v417 c16_i32_283
  let v430 : BitVec 32 := Scalar.addi c0_i32_284 v429
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_285 : BitVec 32 := 4#32
  let v431 : BitVec 32 := Scalar.muli v5 c4_i32_285
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_273 : BitVec 32 := 1#32
  let v418 : BitVec 32 := Scalar.addi v8 c1_i32_273
  let c4_i32_274 : BitVec 32 := 4#32
  let c0_i32_275 : BitVec 32 := 0#32
  let v419 : BitVec 1 := Scalar.cmpi .eq c4_i32_274 c0_i32_275
  let c1_i32_276 : BitVec 32 := 1#32
  let v420 : BitVec 32 := Scalar.select v419 c1_i32_276 c4_i32_274
  let v421 : BitVec 32 := Scalar.remsi v418 v420
  let c0_i32_278 : BitVec 32 := 0#32
  let v423 : BitVec 1 := Scalar.cmpi .slt v421 c0_i32_278
  let c0_i32_279 : BitVec 32 := 0#32
  let v424 : BitVec 1 := Scalar.cmpi .slt v420 c0_i32_279
  let v425 : BitVec 1 := Scalar.xori v423 v424
  let c0_i32_277 : BitVec 32 := 0#32
  let v422 : BitVec 1 := Scalar.cmpi .ne v421 c0_i32_277
  let v426 : BitVec 1 := Scalar.andi v425 v422
  let v427 : BitVec 32 := Scalar.addi v421 v420
  let v428 : BitVec 32 := Scalar.select v426 v427 v421
  let c1_i32_286 : BitVec 32 := 1#32
  let v433 : BitVec 32 := Scalar.muli v428 c1_i32_286
  let v434 : BitVec 32 := Scalar.addi v432 v433
  v434.toNat
def k0_dev9 (d0 : Dev nD) : Nat :=
  let c0_i32_307 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_289 : BitVec 32 := 0#32
  let v441 : BitVec 32 := Scalar.addi v2 c0_i32_289
  let c2_i32_290 : BitVec 32 := 2#32
  let c0_i32_291 : BitVec 32 := 0#32
  let v442 : BitVec 1 := Scalar.cmpi .eq c2_i32_290 c0_i32_291
  let c1_i32_292 : BitVec 32 := 1#32
  let v443 : BitVec 32 := Scalar.select v442 c1_i32_292 c2_i32_290
  let v444 : BitVec 32 := Scalar.remsi v441 v443
  let c0_i32_294 : BitVec 32 := 0#32
  let v446 : BitVec 1 := Scalar.cmpi .slt v444 c0_i32_294
  let c0_i32_295 : BitVec 32 := 0#32
  let v447 : BitVec 1 := Scalar.cmpi .slt v443 c0_i32_295
  let v448 : BitVec 1 := Scalar.xori v446 v447
  let c0_i32_293 : BitVec 32 := 0#32
  let v445 : BitVec 1 := Scalar.cmpi .ne v444 c0_i32_293
  let v449 : BitVec 1 := Scalar.andi v448 v445
  let v450 : BitVec 32 := Scalar.addi v444 v443
  let v451 : BitVec 32 := Scalar.select v449 v450 v444
  let c16_i32_306 : BitVec 32 := 16#32
  let v463 : BitVec 32 := Scalar.muli v451 c16_i32_306
  let v464 : BitVec 32 := Scalar.addi c0_i32_307 v463
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_308 : BitVec 32 := 4#32
  let v465 : BitVec 32 := Scalar.muli v5 c4_i32_308
  let v466 : BitVec 32 := Scalar.addi v464 v465
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_296 : BitVec 32 := 2#32
  let v452 : BitVec 32 := Scalar.addi v8 c2_i32_296
  let c4_i32_297 : BitVec 32 := 4#32
  let c0_i32_298 : BitVec 32 := 0#32
  let v453 : BitVec 1 := Scalar.cmpi .eq c4_i32_297 c0_i32_298
  let c1_i32_299 : BitVec 32 := 1#32
  let v454 : BitVec 32 := Scalar.select v453 c1_i32_299 c4_i32_297
  let v455 : BitVec 32 := Scalar.remsi v452 v454
  let c0_i32_301 : BitVec 32 := 0#32
  let v457 : BitVec 1 := Scalar.cmpi .slt v455 c0_i32_301
  let c0_i32_302 : BitVec 32 := 0#32
  let v458 : BitVec 1 := Scalar.cmpi .slt v454 c0_i32_302
  let v459 : BitVec 1 := Scalar.xori v457 v458
  let c0_i32_300 : BitVec 32 := 0#32
  let v456 : BitVec 1 := Scalar.cmpi .ne v455 c0_i32_300
  let v460 : BitVec 1 := Scalar.andi v459 v456
  let v461 : BitVec 32 := Scalar.addi v455 v454
  let v462 : BitVec 32 := Scalar.select v460 v461 v455
  let c1_i32_309 : BitVec 32 := 1#32
  let v467 : BitVec 32 := Scalar.muli v462 c1_i32_309
  let v468 : BitVec 32 := Scalar.addi v466 v467
  v468.toNat
def k0_dev10 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_312 : BitVec 32 := 0#32
  let v475 : BitVec 32 := Scalar.addi v2 c0_i32_312
  let c2_i32_313 : BitVec 32 := 2#32
  let c0_i32_314 : BitVec 32 := 0#32
  let v476 : BitVec 1 := Scalar.cmpi .eq c2_i32_313 c0_i32_314
  let c1_i32_315 : BitVec 32 := 1#32
  let v477 : BitVec 32 := Scalar.select v476 c1_i32_315 c2_i32_313
  let v478 : BitVec 32 := Scalar.remsi v475 v477
  let c0_i32_317 : BitVec 32 := 0#32
  let v480 : BitVec 1 := Scalar.cmpi .slt v478 c0_i32_317
  let c0_i32_318 : BitVec 32 := 0#32
  let v481 : BitVec 1 := Scalar.cmpi .slt v477 c0_i32_318
  let v482 : BitVec 1 := Scalar.xori v480 v481
  let c0_i32_316 : BitVec 32 := 0#32
  let v479 : BitVec 1 := Scalar.cmpi .ne v478 c0_i32_316
  let v483 : BitVec 1 := Scalar.andi v482 v479
  let v484 : BitVec 32 := Scalar.addi v478 v477
  let v485 : BitVec 32 := Scalar.select v483 v484 v478
  let c16_i32_329 : BitVec 32 := 16#32
  let v497 : BitVec 32 := Scalar.muli v485 c16_i32_329
  let v498 : BitVec 32 := Scalar.addi c0_i32_330 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_331 : BitVec 32 := 4#32
  let v499 : BitVec 32 := Scalar.muli v5 c4_i32_331
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_319 : BitVec 32 := 3#32
  let v486 : BitVec 32 := Scalar.addi v8 c3_i32_319
  let c4_i32_320 : BitVec 32 := 4#32
  let c0_i32_321 : BitVec 32 := 0#32
  let v487 : BitVec 1 := Scalar.cmpi .eq c4_i32_320 c0_i32_321
  let c1_i32_322 : BitVec 32 := 1#32
  let v488 : BitVec 32 := Scalar.select v487 c1_i32_322 c4_i32_320
  let v489 : BitVec 32 := Scalar.remsi v486 v488
  let c0_i32_324 : BitVec 32 := 0#32
  let v491 : BitVec 1 := Scalar.cmpi .slt v489 c0_i32_324
  let c0_i32_325 : BitVec 32 := 0#32
  let v492 : BitVec 1 := Scalar.cmpi .slt v488 c0_i32_325
  let v493 : BitVec 1 := Scalar.xori v491 v492
  let c0_i32_323 : BitVec 32 := 0#32
  let v490 : BitVec 1 := Scalar.cmpi .ne v489 c0_i32_323
  let v494 : BitVec 1 := Scalar.andi v493 v490
  let v495 : BitVec 32 := Scalar.addi v489 v488
  let v496 : BitVec 32 := Scalar.select v494 v495 v489
  let c1_i32_332 : BitVec 32 := 1#32
  let v501 : BitVec 32 := Scalar.muli v496 c1_i32_332
  let v502 : BitVec 32 := Scalar.addi v500 v501
  v502.toNat
def k0_dev11 (d0 : Dev nD) : Nat :=
  let c0_i32_353 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_335 : BitVec 32 := 1#32
  let v509 : BitVec 32 := Scalar.addi v2 c1_i32_335
  let c2_i32_336 : BitVec 32 := 2#32
  let c0_i32_337 : BitVec 32 := 0#32
  let v510 : BitVec 1 := Scalar.cmpi .eq c2_i32_336 c0_i32_337
  let c1_i32_338 : BitVec 32 := 1#32
  let v511 : BitVec 32 := Scalar.select v510 c1_i32_338 c2_i32_336
  let v512 : BitVec 32 := Scalar.remsi v509 v511
  let c0_i32_340 : BitVec 32 := 0#32
  let v514 : BitVec 1 := Scalar.cmpi .slt v512 c0_i32_340
  let c0_i32_341 : BitVec 32 := 0#32
  let v515 : BitVec 1 := Scalar.cmpi .slt v511 c0_i32_341
  let v516 : BitVec 1 := Scalar.xori v514 v515
  let c0_i32_339 : BitVec 32 := 0#32
  let v513 : BitVec 1 := Scalar.cmpi .ne v512 c0_i32_339
  let v517 : BitVec 1 := Scalar.andi v516 v513
  let v518 : BitVec 32 := Scalar.addi v512 v511
  let v519 : BitVec 32 := Scalar.select v517 v518 v512
  let c16_i32_352 : BitVec 32 := 16#32
  let v531 : BitVec 32 := Scalar.muli v519 c16_i32_352
  let v532 : BitVec 32 := Scalar.addi c0_i32_353 v531
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_354 : BitVec 32 := 4#32
  let v533 : BitVec 32 := Scalar.muli v5 c4_i32_354
  let v534 : BitVec 32 := Scalar.addi v532 v533
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_342 : BitVec 32 := 0#32
  let v520 : BitVec 32 := Scalar.addi v8 c0_i32_342
  let c4_i32_343 : BitVec 32 := 4#32
  let c0_i32_344 : BitVec 32 := 0#32
  let v521 : BitVec 1 := Scalar.cmpi .eq c4_i32_343 c0_i32_344
  let c1_i32_345 : BitVec 32 := 1#32
  let v522 : BitVec 32 := Scalar.select v521 c1_i32_345 c4_i32_343
  let v523 : BitVec 32 := Scalar.remsi v520 v522
  let c0_i32_347 : BitVec 32 := 0#32
  let v525 : BitVec 1 := Scalar.cmpi .slt v523 c0_i32_347
  let c0_i32_348 : BitVec 32 := 0#32
  let v526 : BitVec 1 := Scalar.cmpi .slt v522 c0_i32_348
  let v527 : BitVec 1 := Scalar.xori v525 v526
  let c0_i32_346 : BitVec 32 := 0#32
  let v524 : BitVec 1 := Scalar.cmpi .ne v523 c0_i32_346
  let v528 : BitVec 1 := Scalar.andi v527 v524
  let v529 : BitVec 32 := Scalar.addi v523 v522
  let v530 : BitVec 32 := Scalar.select v528 v529 v523
  let c1_i32_355 : BitVec 32 := 1#32
  let v535 : BitVec 32 := Scalar.muli v530 c1_i32_355
  let v536 : BitVec 32 := Scalar.addi v534 v535
  v536.toNat
def k0_dev12 (d0 : Dev nD) : Nat :=
  let c0_i32_376 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_358 : BitVec 32 := 1#32
  let v543 : BitVec 32 := Scalar.addi v2 c1_i32_358
  let c2_i32_359 : BitVec 32 := 2#32
  let c0_i32_360 : BitVec 32 := 0#32
  let v544 : BitVec 1 := Scalar.cmpi .eq c2_i32_359 c0_i32_360
  let c1_i32_361 : BitVec 32 := 1#32
  let v545 : BitVec 32 := Scalar.select v544 c1_i32_361 c2_i32_359
  let v546 : BitVec 32 := Scalar.remsi v543 v545
  let c0_i32_363 : BitVec 32 := 0#32
  let v548 : BitVec 1 := Scalar.cmpi .slt v546 c0_i32_363
  let c0_i32_364 : BitVec 32 := 0#32
  let v549 : BitVec 1 := Scalar.cmpi .slt v545 c0_i32_364
  let v550 : BitVec 1 := Scalar.xori v548 v549
  let c0_i32_362 : BitVec 32 := 0#32
  let v547 : BitVec 1 := Scalar.cmpi .ne v546 c0_i32_362
  let v551 : BitVec 1 := Scalar.andi v550 v547
  let v552 : BitVec 32 := Scalar.addi v546 v545
  let v553 : BitVec 32 := Scalar.select v551 v552 v546
  let c16_i32_375 : BitVec 32 := 16#32
  let v565 : BitVec 32 := Scalar.muli v553 c16_i32_375
  let v566 : BitVec 32 := Scalar.addi c0_i32_376 v565
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_377 : BitVec 32 := 4#32
  let v567 : BitVec 32 := Scalar.muli v5 c4_i32_377
  let v568 : BitVec 32 := Scalar.addi v566 v567
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_365 : BitVec 32 := 1#32
  let v554 : BitVec 32 := Scalar.addi v8 c1_i32_365
  let c4_i32_366 : BitVec 32 := 4#32
  let c0_i32_367 : BitVec 32 := 0#32
  let v555 : BitVec 1 := Scalar.cmpi .eq c4_i32_366 c0_i32_367
  let c1_i32_368 : BitVec 32 := 1#32
  let v556 : BitVec 32 := Scalar.select v555 c1_i32_368 c4_i32_366
  let v557 : BitVec 32 := Scalar.remsi v554 v556
  let c0_i32_370 : BitVec 32 := 0#32
  let v559 : BitVec 1 := Scalar.cmpi .slt v557 c0_i32_370
  let c0_i32_371 : BitVec 32 := 0#32
  let v560 : BitVec 1 := Scalar.cmpi .slt v556 c0_i32_371
  let v561 : BitVec 1 := Scalar.xori v559 v560
  let c0_i32_369 : BitVec 32 := 0#32
  let v558 : BitVec 1 := Scalar.cmpi .ne v557 c0_i32_369
  let v562 : BitVec 1 := Scalar.andi v561 v558
  let v563 : BitVec 32 := Scalar.addi v557 v556
  let v564 : BitVec 32 := Scalar.select v562 v563 v557
  let c1_i32_378 : BitVec 32 := 1#32
  let v569 : BitVec 32 := Scalar.muli v564 c1_i32_378
  let v570 : BitVec 32 := Scalar.addi v568 v569
  v570.toNat
def k0_dev13 (d0 : Dev nD) : Nat :=
  let c0_i32_399 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_381 : BitVec 32 := 1#32
  let v577 : BitVec 32 := Scalar.addi v2 c1_i32_381
  let c2_i32_382 : BitVec 32 := 2#32
  let c0_i32_383 : BitVec 32 := 0#32
  let v578 : BitVec 1 := Scalar.cmpi .eq c2_i32_382 c0_i32_383
  let c1_i32_384 : BitVec 32 := 1#32
  let v579 : BitVec 32 := Scalar.select v578 c1_i32_384 c2_i32_382
  let v580 : BitVec 32 := Scalar.remsi v577 v579
  let c0_i32_386 : BitVec 32 := 0#32
  let v582 : BitVec 1 := Scalar.cmpi .slt v580 c0_i32_386
  let c0_i32_387 : BitVec 32 := 0#32
  let v583 : BitVec 1 := Scalar.cmpi .slt v579 c0_i32_387
  let v584 : BitVec 1 := Scalar.xori v582 v583
  let c0_i32_385 : BitVec 32 := 0#32
  let v581 : BitVec 1 := Scalar.cmpi .ne v580 c0_i32_385
  let v585 : BitVec 1 := Scalar.andi v584 v581
  let v586 : BitVec 32 := Scalar.addi v580 v579
  let v587 : BitVec 32 := Scalar.select v585 v586 v580
  let c16_i32_398 : BitVec 32 := 16#32
  let v599 : BitVec 32 := Scalar.muli v587 c16_i32_398
  let v600 : BitVec 32 := Scalar.addi c0_i32_399 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_400 : BitVec 32 := 4#32
  let v601 : BitVec 32 := Scalar.muli v5 c4_i32_400
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_388 : BitVec 32 := 2#32
  let v588 : BitVec 32 := Scalar.addi v8 c2_i32_388
  let c4_i32_389 : BitVec 32 := 4#32
  let c0_i32_390 : BitVec 32 := 0#32
  let v589 : BitVec 1 := Scalar.cmpi .eq c4_i32_389 c0_i32_390
  let c1_i32_391 : BitVec 32 := 1#32
  let v590 : BitVec 32 := Scalar.select v589 c1_i32_391 c4_i32_389
  let v591 : BitVec 32 := Scalar.remsi v588 v590
  let c0_i32_393 : BitVec 32 := 0#32
  let v593 : BitVec 1 := Scalar.cmpi .slt v591 c0_i32_393
  let c0_i32_394 : BitVec 32 := 0#32
  let v594 : BitVec 1 := Scalar.cmpi .slt v590 c0_i32_394
  let v595 : BitVec 1 := Scalar.xori v593 v594
  let c0_i32_392 : BitVec 32 := 0#32
  let v592 : BitVec 1 := Scalar.cmpi .ne v591 c0_i32_392
  let v596 : BitVec 1 := Scalar.andi v595 v592
  let v597 : BitVec 32 := Scalar.addi v591 v590
  let v598 : BitVec 32 := Scalar.select v596 v597 v591
  let c1_i32_401 : BitVec 32 := 1#32
  let v603 : BitVec 32 := Scalar.muli v598 c1_i32_401
  let v604 : BitVec 32 := Scalar.addi v602 v603
  v604.toNat
def k0_dev14 (d0 : Dev nD) : Nat :=
  let c0_i32_422 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_404 : BitVec 32 := 1#32
  let v611 : BitVec 32 := Scalar.addi v2 c1_i32_404
  let c2_i32_405 : BitVec 32 := 2#32
  let c0_i32_406 : BitVec 32 := 0#32
  let v612 : BitVec 1 := Scalar.cmpi .eq c2_i32_405 c0_i32_406
  let c1_i32_407 : BitVec 32 := 1#32
  let v613 : BitVec 32 := Scalar.select v612 c1_i32_407 c2_i32_405
  let v614 : BitVec 32 := Scalar.remsi v611 v613
  let c0_i32_409 : BitVec 32 := 0#32
  let v616 : BitVec 1 := Scalar.cmpi .slt v614 c0_i32_409
  let c0_i32_410 : BitVec 32 := 0#32
  let v617 : BitVec 1 := Scalar.cmpi .slt v613 c0_i32_410
  let v618 : BitVec 1 := Scalar.xori v616 v617
  let c0_i32_408 : BitVec 32 := 0#32
  let v615 : BitVec 1 := Scalar.cmpi .ne v614 c0_i32_408
  let v619 : BitVec 1 := Scalar.andi v618 v615
  let v620 : BitVec 32 := Scalar.addi v614 v613
  let v621 : BitVec 32 := Scalar.select v619 v620 v614
  let c16_i32_421 : BitVec 32 := 16#32
  let v633 : BitVec 32 := Scalar.muli v621 c16_i32_421
  let v634 : BitVec 32 := Scalar.addi c0_i32_422 v633
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_423 : BitVec 32 := 4#32
  let v635 : BitVec 32 := Scalar.muli v5 c4_i32_423
  let v636 : BitVec 32 := Scalar.addi v634 v635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_411 : BitVec 32 := 3#32
  let v622 : BitVec 32 := Scalar.addi v8 c3_i32_411
  let c4_i32_412 : BitVec 32 := 4#32
  let c0_i32_413 : BitVec 32 := 0#32
  let v623 : BitVec 1 := Scalar.cmpi .eq c4_i32_412 c0_i32_413
  let c1_i32_414 : BitVec 32 := 1#32
  let v624 : BitVec 32 := Scalar.select v623 c1_i32_414 c4_i32_412
  let v625 : BitVec 32 := Scalar.remsi v622 v624
  let c0_i32_416 : BitVec 32 := 0#32
  let v627 : BitVec 1 := Scalar.cmpi .slt v625 c0_i32_416
  let c0_i32_417 : BitVec 32 := 0#32
  let v628 : BitVec 1 := Scalar.cmpi .slt v624 c0_i32_417
  let v629 : BitVec 1 := Scalar.xori v627 v628
  let c0_i32_415 : BitVec 32 := 0#32
  let v626 : BitVec 1 := Scalar.cmpi .ne v625 c0_i32_415
  let v630 : BitVec 1 := Scalar.andi v629 v626
  let v631 : BitVec 32 := Scalar.addi v625 v624
  let v632 : BitVec 32 := Scalar.select v630 v631 v625
  let c1_i32_424 : BitVec 32 := 1#32
  let v637 : BitVec 32 := Scalar.muli v632 c1_i32_424
  let v638 : BitVec 32 := Scalar.addi v636 v637
  v638.toNat
abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .i32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.KernelIdeal.Mesh.lean ====
/-
# The mesh, the semaphores and the contents of the layer-norm gradient exchange

The mesh has axes `x = 2`, `y = 4`, `z = 4`; device `(x, y, z)` has the number `16 x + 4 y + z`. The rows of the two
inputs are cut along `z` only, and devices which differ in `x` work on the two halves of their block. So the eight
devices of one `(x, z)` plane hold eight different partial sums, and each of them needs the other seven.

Device `c` writes its partial sum (`accVal c`) into its buffer `accM` and copies it to its seven peers. Slot `s` of the
landing buffer belongs to one displacement `(dx s, dz s)`: device `c`'s copy number `s` lands in slot `s` of `fwd s c`,
and what lands in slot `s` of `c` comes from the device `fwd (inv s) c`.

The semaphores of device `c`:

* the barrier. Device `c` raises the barrier of each peer `fwd s c` by one and so gives it slot `inv s` of `c`, the slot
  which that peer's copy is going to fill. It then waits for seven on its own barrier and has all seven peers' slots.
* send semaphore `s`. Raised when copy `s` has read `accM`; `c` waits for it and has its share of `accM` back.
* receive semaphore `s`. Raised when the copy of the peer `fwd (inv s) c` has landed in slot `s`; `c` waits for it and
  has the slot, holding that peer's partial sum.
* eight semaphores of the copies from the inputs to the tiles, which no other device touches.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.ValueIdxCore

@[expose] public section

set_option maxRecDepth 16384

noncomputable section

namespace Cert.KernelIdeal.Exchange

open Cert.KernelIdeal Cert.KernelIdeal.Gen
open Idealize.ShloMosaic
open Idealize.ShloMosaic.TcCoe
open Idealize.ShloMosaic.ValueIdx

variable {F : FTy → Type} [FloatOps F]

/-! ## Peers -/

/-- The displacement of slot `s` along `x`. -/
def dx : Fin 7 → ℕ := ![0, 0, 0, 1, 1, 1, 1]
/-- The displacement of slot `s` along `z`. -/
def dz : Fin 7 → ℕ := ![1, 2, 3, 0, 1, 2, 3]
/-- The slot of the opposite displacement. -/
def inv : Fin 7 → Fin 7 := ![2, 1, 0, 3, 6, 5, 4]

/-- The peer whose slot `s` device `c` fills. -/
def fwd (s : Fin 7) (c : Dev nD) : Dev nD :=
  ⟨16 * ((c.val / 16 + dx s) % 2) + 4 * (c.val / 4 % 4) + (c.val + dz s) % 4, by show _ < 32; omega⟩

theorem inv_inv (s : Fin 7) : inv (inv s) = s := by revert s; decide
/-- Going by a displacement and then by its opposite comes back. -/
theorem fwd_inv (s : Fin 7) (c : Dev nD) : fwd (inv s) (fwd s c) = c := by revert s c; decide +kernel
theorem inv_fwd (s : Fin 7) (c : Dev nD) : fwd s (fwd (inv s) c) = c := by revert s c; decide +kernel

/-- One displacement permutes the devices. -/
def around (s : Fin 7) : Dev nD ≃ Dev nD := ⟨fwd s, fwd (inv s), fwd_inv s, inv_fwd s⟩

/-! The devices named by the seven signals and the seven copies are the peers, in the order of the slots. -/

theorem dev1_eq (c : Dev nD) : (⟨k0_dev1 c, k0_dev1_lt c⟩ : Dev nD) = fwd 0 c := by revert c; decide +kernel
theorem dev2_eq (c : Dev nD) : (⟨k0_dev2 c, k0_dev2_lt c⟩ : Dev nD) = fwd 1 c := by revert c; decide +kernel
theorem dev3_eq (c : Dev nD) : (⟨k0_dev3 c, k0_dev3_lt c⟩ : Dev nD) = fwd 2 c := by revert c; decide +kernel
theorem dev4_eq (c : Dev nD) : (⟨k0_dev4 c, k0_dev4_lt c⟩ : Dev nD) = fwd 3 c := by revert c; decide +kernel
theorem dev5_eq (c : Dev nD) : (⟨k0_dev5 c, k0_dev5_lt c⟩ : Dev nD) = fwd 4 c := by revert c; decide +kernel
theorem dev6_eq (c : Dev nD) : (⟨k0_dev6 c, k0_dev6_lt c⟩ : Dev nD) = fwd 5 c := by revert c; decide +kernel
theorem dev7_eq (c : Dev nD) : (⟨k0_dev7 c, k0_dev7_lt c⟩ : Dev nD) = fwd 6 c := by revert c; decide +kernel
theorem dev8_eq (c : Dev nD) : (⟨k0_dev8 c, k0_dev8_lt c⟩ : Dev nD) = fwd 0 c := by revert c; decide +kernel
theorem dev9_eq (c : Dev nD) : (⟨k0_dev9 c, k0_dev9_lt c⟩ : Dev nD) = fwd 1 c := by revert c; decide +kernel
theorem dev10_eq (c : Dev nD) : (⟨k0_dev10 c, k0_dev10_lt c⟩ : Dev nD) = fwd 2 c := by revert c; decide +kernel
theorem dev11_eq (c : Dev nD) : (⟨k0_dev11 c, k0_dev11_lt c⟩ : Dev nD) = fwd 3 c := by revert c; decide +kernel
theorem dev12_eq (c : Dev nD) : (⟨k0_dev12 c, k0_dev12_lt c⟩ : Dev nD) = fwd 4 c := by revert c; decide +kernel
theorem dev13_eq (c : Dev nD) : (⟨k0_dev13 c, k0_dev13_lt c⟩ : Dev nD) = fwd 5 c := by revert c; decide +kernel
theorem dev14_eq (c : Dev nD) : (⟨k0_dev14 c, k0_dev14_lt c⟩ : Dev nD) = fwd 6 c := by revert c; decide +kernel

/-! ## Buffers and semaphores -/

/-- The buffer of a device's own partial sum. -/
abbrev accM : Memref sig .tc .vmem S2x2048 .f32 := Memref.whole cc0_scratch2
/-- The landing buffer of the seven peers' partial sums. -/
abbrev recvsM : Memref sig .tc .vmem S7x2x2048 .f32 := Memref.whole cc0_scratch3

theorem slot_inb (s : Fin 7) : ∀ a, (![s.val, 0, 0] : Fin 3 → ℕ) a + S1x2x2048.size a ≤ S7x2x2048.size a := by
  revert s; decide

/-- Slot `s` of the landing buffer, its first axis dropped. -/
abbrev slotM (s : Fin 7) : Memref sig .tc .vmem S2x2048 .f32 :=
  (recvsM.slice (Rect.unit (s := S7x2x2048) ![s.val, 0, 0] S1x2x2048.size (slot_inb s)) (fun _ => rfl)).squeeze S2x2048
    squeezes_S1x2x2048_S2x2048

/-- The barrier semaphore. -/
abbrev barS : Sem sig := (SemArray.scalar (sig.barrier 0 rfl) : Sems sig S_).sem
/-- The send semaphore of copy `s`. -/
def sendS (s : Fin 7) : DmaSem sig := ⟨1 + s.val, by show _ < 23; omega⟩
/-- The receive semaphore of slot `s`. -/
def recvS (s : Fin 7) : DmaSem sig := ⟨8 + s.val, by show _ < 23; omega⟩
/-- The slot which a send or receive semaphore belongs to. -/
def slotOf (q : DmaSem sig) : Fin 7 := ⟨(q.val + 6) % 7, Nat.mod_lt _ (by decide)⟩

theorem slotOf_sendS (s : Fin 7) : slotOf (sendS s) = s := by revert s; decide
theorem slotOf_recvS (s : Fin 7) : slotOf (recvS s) = s := by revert s; decide
theorem sendS_le (s : Fin 7) : (sendS s).val ≤ 7 := by revert s; decide
theorem recvS_gt (s : Fin 7) : ¬ (recvS s).val ≤ 7 := by revert s; decide

abbrev barCell (c : Dev nD) : GSem nD τ sig := ((c : Thread nD τ), .reg barS)
abbrev sendCell (c : Dev nD) (s : Fin 7) : GSem nD τ sig := ((c : Thread nD τ), .dma (sendS s))
abbrev recvCell (c : Dev nD) (s : Fin 7) : GSem nD τ sig := ((c : Thread nD τ), .dma (recvS s))

/-- What one copy of a partial sum adds to its two semaphores. -/
abbrev N : ℕ := (accM : Memref sig .tc .vmem S2x2048 .f32).view.dmaCredit
theorem N_pos : 0 < N := View.dmaCredit_pos _ (by decide)
/-- Every slot has the same size. -/
theorem slot_credit (s : Fin 7) : (slotM s).view.dmaCredit = N := rfl

/-! ## Contents -/

variable (m : (ℓ : Loc nD τ sig) → Buf (Elt F) ℓ)

/-- Row `r` of tile `t`, as a row of device `c`'s block: `c` takes the half of the block which its `x` names. -/
def tileRow (c : Dev nD) (t : Fin 4) (r : Fin 256) : Fin 2048 :=
  ⟨1024 * (c.val / 16) + 256 * t.val + r.val, by have := c.isLt; have : nD = 32 := rfl; omega⟩

/-- Tile `t` of a block, in the shape the kernel loads it at. -/
@[irreducible] def tile (b : Vec F S2048x2048 .f32) (c : Dev nD) (t : Fin 4) : Vec F S1x256x2048 .f32 :=
  fun j => b (ix2 (tileRow c t (j 1)) (j 2))

/-- Device `c`'s block of `x`, and of `dy`. -/
@[irreducible] def xB (c : Dev nD) : Vec F S2048x2048 .f32 := m ((c : Thread nD τ).loc main_arg0)
@[irreducible] def dyB (c : Dev nD) : Vec F S2048x2048 .f32 := m ((c : Thread nD τ).loc main_arg1)

/-- The partial sum of device `c` over its first one, two, three and four tiles. -/
@[irreducible] def acc1 (c : Dev nD) : FVec F S2x2048 .f32 := k0_pay3 k0_pay2 (tile (xB m c) c 0) (tile (dyB m c) c 0)
@[irreducible] def acc2 (c : Dev nD) : FVec F S2x2048 .f32 := k0_pay4 (acc1 m c) (tile (xB m c) c 1) (tile (dyB m c) c 1)
@[irreducible] def acc3 (c : Dev nD) : FVec F S2x2048 .f32 := k0_pay5 (acc2 m c) (tile (xB m c) c 2) (tile (dyB m c) c 2)
@[irreducible] def acc4 (c : Dev nD) : FVec F S2x2048 .f32 := k0_pay6 (acc3 m c) (tile (xB m c) c 3) (tile (dyB m c) c 3)

/-- What device `c` stores in its buffer and sends to its peers. -/
@[irreducible] def accVal (c : Dev nD) : FVec F S2x2048 .f32 := k0_pay7 (acc3 m c) (tile (xB m c) c 3) (tile (dyB m c) c 3)

/-- The landing buffer of `c` with slot `s` filled by the peer whose slot `s` copy comes to `c`. -/
def landed (c : Dev nD) (s : Fin 7) : Buf (Elt F) ((c : Thread nD τ).loc cc0_scratch3) :=
  (slotM s).view.write (Elt F) (m ((c : Thread nD τ).loc cc0_scratch3)) (accVal m (fwd (inv s) c)) Finset.univ

/-- What `c` loads from slot `s`. -/
def got (c : Dev nD) (s : Fin 7) : Vec F S1x2x2048 .f32 := fun j => accVal m (fwd (inv s) c) (ix2 (j 1) (j 2))

/-- The kernel's result on device `c`: its own partial sum and then the seven landed ones, in the order of the slots. -/
def outVal (c : Dev nD) : FVec F S2x2048 .f32 :=
  k0_pay1 (k0_pay11 (k0_pay10 (k0_pay9 (k0_pay8 (acc4 m c) (got m c 0) (got m c 1)) (got m c 2)) (got m c 3) (got m c 4)) (got m c 5))
    (got m c 6)

end Cert.KernelIdeal.Exchange
-- ==== Proof.KernelIdeal.Schedule.lean ====
/-
# The schedule of the exchange

Each of the fifteen semaphores of a device which other devices or remote copies touch has one round of duties:

* the barrier: seven duties of one unit. Duty `d` is paid by the peer `fwd d c` and hands `c` that peer's slot `d`;
* send semaphore `s`: one duty, a copy's credit. It hands `c` its share of `accM` back, still holding `accVal c`;
* receive semaphore `s`: one duty, a copy's credit. It hands `c` its slot `s`, holding the peer's partial sum.

A device first pays its seven barrier duties and then its seven receive duties. It waits on its barrier while it still
owes the receive duties, and on nothing else that others must pay while it owes anything; so barriers stand below
receive semaphores, and everything else stands below both.
-/
module

public import proofs.«01_k».proof.Proof.KernelIdeal.Mesh

@[expose] public section

set_option maxRecDepth 16384

noncomputable section

namespace Cert.KernelIdeal.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's, and the exchange's rounds with duty names `Fin 7`. -/
abbrev UX : Type := URounds (GSem nD τ sig) (Fin 7)
abbrev UU : Type := UR sig nD τ × (UX × Counters)

local notation "𝕄" => MT nD τ sig Unit (Elt F) ℕ UU ℕ

abbrev EP : Emb (UR sig nD τ) (MT nD τ sig Unit (Elt F) ℕ UU ℕ) := embL
/-- The exchange's rounds inside the certificate's algebra; beside them the counters of the local copies. -/
def EX : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
instance EX_landsIn : (EX : Emb UX 𝕄).LandsIn (upEmb : UEmb _ 𝕄) := by unfold EX; infer_instance

variable (m : (ℓ : Loc nD τ sig) → Buf (Elt F) ℓ)

/-! ## What is handed over -/

/-- Device `c`'s slot `s`, at contents `f` of the landing buffer. -/
def slotPts (c : Dev nD) (s : Fin 7) (f : Buf (Elt F) ((c : Thread nD τ).loc cc0_scratch3)) : sProp 𝕄 :=
  (slotM s).view.loc (c : Thread nD τ) ↦[(slotM s).view.set]{fullShare} f

/-- One of eight equal shares of device `c`'s buffer `accM`, at its partial sum: leaf `s` for copy `s`, leaf 7 stays. -/
def accLeaf (c : Dev nD) (i : Fin (2 ^ 3)) : sProp 𝕄 :=
  (accM : Memref sig .tc .vmem S2x2048 .f32).view.loc (c : Thread nD τ) ↦[(accM : Memref sig .tc .vmem S2x2048 .f32).view.set]{ShareLeaves.leaf 3 fullShare i} accVal m c

/-- The leaf of copy `s`. -/
def leafOf (s : Fin 7) : Fin (2 ^ 3) := ⟨s.val, by have := s.isLt; omega⟩

def barPay (c : Dev nD) (d : Fin 7) : sProp 𝕄 := iprop(∃ f, slotPts (fwd d c) d f)
def sendPay (c : Dev nD) (s : Fin 7) : sProp 𝕄 := accLeaf m c (leafOf s)
def recvPay (c : Dev nD) (s : Fin 7) : sProp 𝕄 := slotPts c s (landed m c s)

instance slotPts_storable (c : Dev nD) (s : Fin 7) (f) : BI.Storable (upEmb : UEmb _ 𝕄) (slotPts (F := F) c s f) := by
  unfold slotPts; infer_instance
instance accLeaf_storable (c : Dev nD) (i) : BI.Storable (upEmb : UEmb _ 𝕄) (accLeaf (F := F) m c i) := by
  unfold accLeaf; infer_instance

/-- The rounds: which duties a semaphore has, how much each adds, what each hands over. -/
def sched : Rounds.Schedule (GSem nD τ sig) (Fin 7) 𝕄 where
  duties g r := if r = 0 ∧ g.1.2 = .tc then
      match g.2 with
      | .reg _ => Finset.univ
      | .dma q => if 1 ≤ q.val ∧ q.val ≤ 14 then {0} else ∅
    else ∅
  unitless _ := False
  amount g _ _ := match g.2 with
    | .reg _ => 1
    | .dma _ => N
  payload g _ d := match g.2 with
    | .reg _ => barPay g.1.1 d
    | .dma q => if q.val ≤ 7 then sendPay m g.1.1 (slotOf q) else recvPay m g.1.1 (slotOf q)
  amount_pos g _ _ _ := by
    obtain ⟨g, (s | q)⟩ := g
    · exact Nat.one_pos
    · exact N_pos

instance sched_storable (g : GSem nD τ sig) (r : ℕ) (d : Fin 7) :
    BI.Storable (upEmb : UEmb _ 𝕄) ((sched (F := F) m).payload g r d) := by
  obtain ⟨g, (s | q)⟩ := g
  · show BI.Storable upEmb (barPay g.1 d)
    unfold barPay; infer_instance
  · show BI.Storable upEmb (if q.val ≤ 7 then sendPay m g.1 (slotOf q) else recvPay m g.1 (slotOf q))
    unfold sendPay recvPay; split <;> infer_instance

section Tables
variable (c : Dev nD) (s : Fin 7)

theorem duties_bar : (sched (F := F) m).duties (barCell c) 0 = Finset.univ := by
  dsimp only [sched]; exact if_pos ⟨rfl, rfl⟩
theorem duties_send : (sched (F := F) m).duties (sendCell c s) 0 = {0} := by
  dsimp only [sched]
  rw [if_pos ⟨rfl, rfl⟩, if_pos (by revert s; decide)]
theorem duties_recv : (sched (F := F) m).duties (recvCell c s) 0 = {0} := by
  dsimp only [sched]
  rw [if_pos ⟨rfl, rfl⟩, if_pos (by revert s; decide)]
/-- There is one round only. -/
theorem duties_later (g : GSem nD τ sig) : ∀ r, 1 ≤ r → (sched (F := F) m).duties g r = ∅ :=
  fun r hr => if_neg fun h => by have := h.1; omega

theorem amount_bar (d : Fin 7) : (sched (F := F) m).amount (barCell c) 0 d = 1 := rfl
theorem amount_send (d : Fin 7) : (sched (F := F) m).amount (sendCell c s) 0 d = N := rfl
theorem amount_recv (d : Fin 7) : (sched (F := F) m).amount (recvCell c s) 0 d = N := rfl

theorem expect_bar : (sched (F := F) m).expect (barCell c) 0 = 7 := by
  unfold Schedule.expect Schedule.amountOf
  rw [duties_bar, Finset.sum_congr rfl fun d _ => amount_bar m c d]
  rfl
theorem expect_send : (sched (F := F) m).expect (sendCell c s) 0 = N := by
  unfold Schedule.expect Schedule.amountOf; rw [duties_send, Finset.sum_singleton, amount_send]
theorem expect_recv : (sched (F := F) m).expect (recvCell c s) 0 = N := by
  unfold Schedule.expect Schedule.amountOf; rw [duties_recv, Finset.sum_singleton, amount_recv]

theorem payload_bar (d : Fin 7) : (sched (F := F) m).payload (barCell c) 0 d = barPay c d := rfl
theorem payload_send (d : Fin 7) : (sched (F := F) m).payload (sendCell c s) 0 d = sendPay m c s := by
  refine (if_pos (sendS_le s)).trans ?_; rw [slotOf_sendS]
theorem payload_recv (d : Fin 7) : (sched (F := F) m).payload (recvCell c s) 0 d = recvPay m c s := by
  refine (if_neg (recvS_gt s)).trans ?_; rw [slotOf_recvS]

/-- What a whole round of each kind of semaphore hands over. -/
theorem rest_bar : bigSep ((sched (F := F) m).duties (barCell c) 0 \ ∅) (fun d => (sched (F := F) m).payload (barCell c) 0 d)
    = bigSep Finset.univ (fun d : Fin 7 => barPay (F := F) c d) := by
  rw [Finset.sdiff_empty, duties_bar]; rfl
theorem rest_send : bigSep ((sched (F := F) m).duties (sendCell c s) 0 \ ∅) (fun d => (sched (F := F) m).payload (sendCell c s) 0 d) = sendPay m c s := by
  rw [Finset.sdiff_empty, duties_send, bigSep_singleton, payload_send]
theorem rest_recv : bigSep ((sched (F := F) m).duties (recvCell c s) 0 \ ∅) (fun d => (sched (F := F) m).payload (recvCell c s) 0 d) = recvPay m c s := by
  rw [Finset.sdiff_empty, duties_recv, bigSep_singleton, payload_recv]

end Tables

/-! ## What a device owes, and the order of the waits -/

/-- What device `c` owes while the copies `ss` are still to come, the next one last in the sum. -/
def owingCopies (c : Dev nD) : List (Fin 7) → CellTallies nD τ sig Unit
  | [] => 0
  | s :: ss => owingCopies c ss + tallyAt (recvCell (fwd s c) s) () N

/-- What device `c` owes while the copies `ss` and the signals `gs` are still to come, the next one last in the sum. -/
def owing (c : Dev nD) (ss : List (Fin 7)) : List (Fin 7) → CellTallies nD τ sig Unit
  | [] => owingCopies c ss
  | s :: gs => owing c ss gs + tallyAt (barCell (fwd s c)) () 1

/-- The slots in the order of the program. -/
abbrev slots : List (Fin 7) := [0, 1, 2, 3, 4, 5, 6]

/-- What device `c` owes at launch: seven copies and seven signals. -/
def owed₀ (c : Dev nD) : CellTallies nD τ sig Unit := owing c slots slots

theorem owing_pos (c : Dev nD) (ss gs : List (Fin 7)) {g : GSem nD τ sig} {u : Unit} (h : 0 < owing c ss gs g u) :
    (∃ s, g = recvCell (fwd s c) s) ∨ (gs ≠ [] ∧ ∃ s, g = barCell (fwd s c)) := by
  induction gs with
  | nil =>
    rw [owing] at h
    induction ss with
    | nil => exact absurd h (Nat.lt_irrefl 0)
    | cons s ss ih =>
      rw [owingCopies, Pi.add_apply, Finsupp.add_apply, tallyAt_apply] at h
      by_cases hg : g = recvCell (fwd s c) s ∧ u = ()
      · exact .inl ⟨s, hg.1⟩
      · rw [if_neg hg, add_zero] at h; exact ih h
  | cons s gs ih =>
    rw [owing, Pi.add_apply, Finsupp.add_apply, tallyAt_apply] at h
    by_cases hg : g = barCell (fwd s c) ∧ u = ()
    · exact .inr ⟨List.cons_ne_nil _ _, s, hg.1⟩
    · rw [if_neg hg, add_zero] at h
      rcases ih h with hr | ⟨-, hb⟩
      · exact .inl hr
      · exact .inr ⟨List.cons_ne_nil _ _, hb⟩

/-- The cores which take part: the tensor cores. -/
def L (g : GSem nD τ sig) : Finset Unit := if g.1.2 = .tc then {()} else ∅

/-- The level of a semaphore: barriers 1, receive semaphores 2, all others 0. -/
def lv (g : GSem nD τ sig) (_ : Unit) : ℕ := match g.2 with
  | .reg _ => 1
  | .dma q => if 8 ≤ q.val ∧ q.val ≤ 14 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 7) : lv (recvCell c s) () = 2 := by
  refine if_pos ?_; revert s; decide

/-- A wait on a semaphore of level 0 may come at any time. -/
theorem mayWait_low (c : Dev nD) (q : DmaSem sig) (hq : ¬ (8 ≤ q.val ∧ q.val ≤ 14)) (ss gs : List (Fin 7)) :
    (levAts L lv : sProp 𝕄) ⊢ MayWait (c : Thread nD τ) (.dma q) () (owing c ss gs) :=
  MayOwe.of_cut (L := L) (lev := lv) 0 (fun p hp => by rw [Finset.mem_singleton.mp hp, L_tc]; exact Finset.mem_singleton_self _)
    (fun g u hg => by
      rcases owing_pos c ss gs hg with ⟨s, rfl⟩ | ⟨-, s, rfl⟩ <;> exact Finset.mem_singleton_self _)
    (fun p hp => by rw [Finset.mem_singleton.mp hp]; exact le_of_eq (if_neg hq))
    (fun g u hg => by
      rcases owing_pos c ss gs hg with ⟨s, rfl⟩ | ⟨-, s, rfl⟩
      · rw [lv_recv]; decide
      · exact Nat.one_pos)

/-- The wait on the barrier may come when only copies are owed. -/
theorem mayWait_bar (c : Dev nD) (ss : List (Fin 7)) :
    (levAts L lv : sProp 𝕄) ⊢ MayWait (c : Thread nD τ) (.reg barS) () (owing c ss []) :=
  MayOwe.of_cut (L := L) (lev := lv) 1 (fun p hp => by rw [Finset.mem_singleton.mp hp, L_tc]; exact Finset.mem_singleton_self _)
    (fun g u hg => by
      rcases owing_pos c ss [] hg with ⟨s, rfl⟩ | ⟨h, -⟩
      · exact Finset.mem_singleton_self _
      · exact absurd rfl h)
    (fun p hp => by rw [Finset.mem_singleton.mp hp]; exact le_refl 1)
    (fun g u hg => by
      rcases owing_pos c ss [] hg with ⟨s, rfl⟩ | ⟨h, -⟩
      · rw [lv_recv]; decide
      · exact absurd rfl h)

end Cert.KernelIdeal.Exchange
-- ==== Proof.KernelIdeal.Steps.lean ====
/-
# The single steps of the exchange

What a device holds for one signal, one copy and one wait, and the step it takes with it. Each step is proved once, for
a symbolic slot.
-/
module

public import proofs.«01_k».proof.Proof.KernelIdeal.Schedule
public import Idealize.ShloMosaic.Lib.Ring
public import Idealize.ShloMosaic.Lib.Writes
public import Idealize.ShloMosaic.Lib.ValueLayout
public import Idealize.ShloMosaic.Lib.Pipeline.Value

@[expose] public section

set_option maxRecDepth 16384

noncomputable section

namespace Cert.KernelIdeal.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## The landing buffer by slots -/

/-- The elements of slot `s`. -/
abbrev slotSet (s : Fin 7) : Finset S7x2x2048.Idx := (Rect.unit (s := S7x2x2048) ![s.val, 0, 0] S1x2x2048.size (slot_inb s)).set

theorem slot_set (s : Fin 7) : (slotM s).view.set = slotSet s := by
  simp only [slotM, Memref.view_squeeze, View.set_reshape]; exact View.set_slice_whole _ _

/-- Two slots have no element in common. -/
theorem slots_disjoint (s s' : Fin 7) (h : s ≠ s') : Disjoint (slotSet s) (slotSet s') :=
  Ring.lead_disjoint (s := S7x2x2048) (0 : Fin 3) 1 (fun s : Fin 7 => (![s.val, 0, 0] : Fin 3 → ℕ)) S1x2x2048.size slot_inb
    (fun b => (Nat.one_mul _).symm) rfl s s' h

/-- The seven slots are the whole landing buffer. -/
theorem slots_cover : Finset.univ.biUnion slotSet = Finset.univ :=
  Ring.lead_cover (s := S7x2x2048) (0 : Fin 3) 1 (fun s : Fin 7 => (![s.val, 0, 0] : Fin 3 → ℕ)) S1x2x2048.size slot_inb
    (fun b => (Nat.one_mul _).symm) (fun b a ha => by fin_cases a <;> first | exact absurd rfl ha | rfl) rfl
    (fun a ha => by fin_cases a <;> first | exact absurd rfl ha | rfl) rfl

theorem slotPts_eq (c : Dev nD) (s : Fin 7) (f : Buf (Elt F) ((c : Thread nD τ).loc cc0_scratch3)) :
    slotPts c s f = (((c : Thread nD τ).loc cc0_scratch3) ↦[slotSet s]{fullShare} f : sProp 𝕄) := by
  unfold slotPts; rw [slot_set]

/-- The landing buffer held whole is held slot by slot. -/
theorem slots_split (c : Dev nD) (f : Buf (Elt F) ((c : Thread nD τ).loc cc0_scratch3)) :
    (((c : Thread nD τ).loc cc0_scratch3) ↦{fullShare} f : sProp 𝕄) = bigSep Finset.univ fun s : Fin 7 => slotPts c s f := by
  rw [funext fun s => slotPts_eq c s f]
  exact Ring.pointsTo_blocks (U := UU) (ℓ := (c : Thread nD τ).loc cc0_scratch3) (q := fullShare) slotSet slots_disjoint slots_cover f

/-- The slots, whatever each holds, are the landing buffer. -/
theorem slots_join (c : Dev nD) (fs : Fin 7 → Buf (Elt F) ((c : Thread nD τ).loc cc0_scratch3)) :
    bigSep Finset.univ (fun s : Fin 7 => slotPts (F := F) c s (fs s))
      ⊢ (iprop(∃ f, ((c : Thread nD τ).loc cc0_scratch3) ↦{fullShare} f) : sProp 𝕄) := by
  rw [funext fun s => slotPts_eq c s (fs s)]
  exact Ring.pointsTo_blocks_join (U := UU) (ℓ := (c : Thread nD τ).loc cc0_scratch3) (q := fullShare) slotSet slots_disjoint slots_cover fs (fs 0)

/-- A load of slot `s` after the landing reads the peer's partial sum. -/
theorem load_landed (c : Dev nD) (s : Fin 7) :
    recvsM.view.readAt (Elt F) (Rect.unit (s := S7x2x2048) ![s.val, 0, 0] S1x2x2048.size (slot_inb s)).toLoadRect (landed m c s)
      = got m c s := by
  have h : shapeCast S2x2048 (recvsM.view.readAt (Elt F)
        (Rect.unit (s := S7x2x2048) ![s.val, 0, 0] S1x2x2048.size (slot_inb s)).toLoadRect (landed m c s)) shapeCasts_S1x2x2048_S2x2048
      = accVal m (fwd (inv s) c) :=
    (Memref.read_squeeze_slice recvsM _ (fun _ => rfl) squeezes_S1x2x2048_S2x2048 _ (landed m c s)).symm.trans
      (View.read_write_univ _ _)
  funext (j : S1x2x2048.Idx)
  unfold got
  rw [← h]
  unfold shapeCast
  refine congrArg _ ?_
  refine ((reshapeEquiv_ix2_1ab (a := 2) (b := 2048) _ (j 1) (j 2)).trans ?_).symm
  funext a
  fin_cases a
  · exact Subsingleton.elim (α := Fin 1) _ _
  · rfl
  · rfl

/-! ## The partial sum by shares -/

theorem acc_whole (c : Dev nD) (f : Buf (Elt F) ((c : Thread nD τ).loc cc0_scratch2)) :
    ((accM : Memref sig .tc .vmem S2x2048 .f32).view.loc (c : Thread nD τ) ↦[(accM : Memref sig .tc .vmem S2x2048 .f32).view.set]{fullShare} f : sProp 𝕄)
      = (((c : Thread nD τ).loc cc0_scratch2) ↦{fullShare} f : sProp 𝕄) := by
  rw [View.set_whole]

/-- The buffer of the partial sum held whole is held in eight shares. -/
theorem acc_split (c : Dev nD) :
    (((c : Thread nD τ).loc cc0_scratch2) ↦{fullShare} accVal m c : sProp 𝕄) = bigSep Finset.univ fun i => accLeaf m c i := by
  unfold accLeaf
  rw [← acc_whole]
  exact ShareLeaves.pointsTo_leaves _ _ 3 fullShare

/-! ## The ghost state of one slot -/

/-- The semaphores of a device by number: the barrier, then the send and the receive semaphores. -/
def csem (k : Fin 15) : SemLoc sig := if k = 0 then .reg barS else .dma ⟨k.val, by show _ < 23; omega⟩
def sendIx (s : Fin 7) : Fin 15 := ⟨1 + s.val, by omega⟩
def recvIx (s : Fin 7) : Fin 15 := ⟨8 + s.val, by omega⟩

variable (K : Dev nD × Fin 15 → ℕ)

/-- For signal `s`: the peer's barrier, and the right to pay the duty there which is this device's. -/
def sigRes (c : Dev nD) (s : Fin 7) : sProp 𝕄 :=
  iprop(cellInv EX (sched m) (K (fwd s c, 0)) (barCell (fwd s c)) ∗ reached EX (barCell (fwd s c)) 0 ∗ dutyTok EX (barCell (fwd s c)) 0 (inv s))

/-- For copy `s`: the own send semaphore, the peer's receive semaphore, and the right to pay both. -/
def copyRes (c : Dev nD) (s : Fin 7) : sProp 𝕄 :=
  iprop(cellInv EX (sched m) (K (c, sendIx s)) (sendCell c s) ∗ reached EX (sendCell c s) 0 ∗ dutyTok EX (sendCell c s) 0 0
    ∗ cellInv EX (sched m) (K (fwd s c, recvIx s)) (recvCell (fwd s c) s) ∗ reached EX (recvCell (fwd s c) s) 0 ∗ dutyTok EX (recvCell (fwd s c) s) 0 0)

/-- For the two waits of slot `s`: the own semaphores, both before their round. -/
def waitRes (c : Dev nD) (s : Fin 7) : sProp 𝕄 :=
  iprop((cellInv EX (sched m) (K (c, sendIx s)) (sendCell c s) ∗ atPos EX (sendCell c s) 0 ∅ 0)
    ∗ (cellInv EX (sched m) (K (c, recvIx s)) (recvCell c s) ∗ atPos EX (recvCell c s) 0 ∅ 0))

/-- For the wait on the barrier. -/
def barRes (c : Dev nD) : sProp 𝕄 :=
  iprop(cellInv EX (sched m) (K (c, 0)) (barCell c) ∗ atPos EX (barCell c) 0 ∅ 0)

/-! ## The steps -/

/-- Signal `s` gives the peer `fwd s c` slot `inv s` of `c`. -/
theorem wp_sig {α : Type} {Q : α → sProp 𝕄} {k : PUnit → Prog (TpuEff nD τ sig (Elt F) Λ₀ .tc) α}
    {W : Waits sig Unit} (c n : Dev nD) (s : Fin 7) (hn : n = fwd s c) (ss gs : List (Fin 7)) :
    iprop(sigRes m K c s ∗ owes (c : Thread nD τ) (owing c ss (s :: gs)) W ∗ (∃ f, slotPts c (inv s) f))
      ⊢ iprop((owes (c : Thread nD τ) (owing c ss gs) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toInt) k) Q) := by
  subst hn
  rw [show (1#32 : BitVec 32).toInt = ((1 : ℕ) : ℤ) by decide]
  unfold sigRes
  iintro ⟨⟨HI, Hr, Ht⟩, HO, Hs⟩
  iapply (Rounds.wp_signal 𝒱₀ EX (sched m) (c : Thread nD τ) none (dst := (fwd s c : Thread nD τ)) (κ := K (fwd s c, 0))
    (d := inv s) (by rw [duties_bar]; exact Finset.mem_univ _) (amount_bar m (fwd s c) (inv s)) () (owing c ss gs) rfl)
  isplitl [HI]; · iexact HI
  isplitl [HO]; · iexact HO
  isplitl [Ht]; · iexact Ht
  isplitl [Hs]
  · rw [payload_bar]; unfold barPay; rw [fwd_inv]; iexact Hs
  iexact Hr

/-- The wait for seven on the barrier gives `c` the slots of its seven peers. -/
theorem wp_bar {α : Type} {Q : α → sProp 𝕄} {k : PUnit → Prog (TpuEff nD τ sig (Elt F) Λ₀ .tc) α}
    {W : Waits sig Unit} (c : Dev nD) (ss : List (Fin 7)) :
    iprop(barRes m K c ∗ cred (tallyAt (barCell c) () 7) ∗ levAts L lv ∗ owes (c : Thread nD τ) (owing c ss []) W)
      ⊢ iprop(((∃ W', owes (c : Thread nD τ) (owing c ss []) W') ∗ semVal (barCell c) 0 ∗ bigSep Finset.univ (fun d : Fin 7 => barPay (F := F) c d)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (7#32 : BitVec 32).toInt) k) Q) := by
  rw [show (7#32 : BitVec 32).toInt = ((7 : ℕ) : ℤ) by decide]
  unfold barRes
  iintro ⟨⟨#HI, Hat⟩, Hc, #Hlev, HO⟩ Hk
  iapply (Rounds.wp_wait_rest_token 𝒱₀ EX (sched m) (c : Thread nD τ) none (κ := K (c, 0))
      (wpE_semWait_eq 𝒱₀ (c : Thread nD τ) none Set.univ) (Set.mem_univ _) () (O := owing c ss []) (W := W) (R := 0) (m := 0) (T := ∅)
      (by rw [expect_bar])) $$ [Hc HO Hat]
  · isplitr; · iexact HI
    isplitl [Hc]; · iexact Hc
    isplitl [HO]; · iexact HO
    isplitr; · iapply (mayWait_bar c ss); iexact Hlev
    iexact Hat
  iintro ⟨HO, Hat, -, Hpay⟩
  imod (Rounds.cell_close EX (sched m) (Set.mem_univ (K (c, 0))) (fun h => h) (R := 0 + 1) (duties_later m (barCell c))) $$ [Hat] with Hz
  · isplitr; · iexact HI
    iexact Hat
  iapply Hk
  isplitl [HO]; · iexists _; iexact HO
  isplitl [Hz]; · iexact Hz
  iapply (Entails.of_eq (rest_bar m c)); iexact Hpay

/-- A slot written with the partial sum of the peer it belongs to, over anything, is what the receive semaphore hands over. -/
theorem landed_of (c : Dev nD) (s : Fin 7) (fd : Buf (Elt F) ((c : Thread nD τ).loc cc0_scratch3)) (v : FVec F S2x2048 .f32)
    (hv : v = accVal m (fwd (inv s) c)) :
    ((slotM s).view.loc (c : Thread nD τ) ↦[(slotM s).view.set]{fullShare} (slotM s).view.write (Elt F) fd v Finset.univ : sProp 𝕄)
      = recvPay m c s := by
  subst hv
  unfold recvPay slotPts landed
  exact View.pointsTo_write_univ_congr (c : Thread nD τ) (slotM s).view fullShare _ _ _

/-- The send semaphore's payload is the share which the copy read. -/
theorem sendPay_eq (c : Dev nD) (s : Fin 7) : accLeaf m c (leafOf s) = (sched (F := F) m).payload (sendCell c s) 0 0 := by
  rw [payload_send]; rfl

/-- Copy `s` takes a share of the partial sum and the peer's slot, and leaves the credit of the send semaphore. -/
theorem wp_copy {α : Type} {Q : α → sProp 𝕄} {k : PUnit → Prog (TpuEff nD τ sig (Elt F) Λ₀ .tc) α}
    {W : Waits sig Unit} (c n : Dev nD) (s : Fin 7) (hn : n = fwd s c) (ss : List (Fin 7))
    {hsc : (slotM s : Memref sig (Dev.tc n : Thread nD τ).2.kind .vmem S2x2048 .f32).view.ref.isScScratch = false}
    {hsrc : (accM : Memref sig .tc .vmem S2x2048 .f32).view.WordExact} {hdst : (slotM s).view.WordExact}
    {hsem : DmaTarget.Typed .vmem (.dma (recvS s)) (.remote (Dev.tc n : Thread nD τ) (slotM s) (.dma (sendS s)) hsc)} :
    iprop(copyRes m K c s ∗ owes (c : Thread nD τ) (owing c (s :: ss) []) W ∗ accLeaf m c (leafOf s) ∗ barPay (F := F) c s)
      ⊢ iprop(((cred (tallyAt (sendCell c s) () N) ∗ owes (c : Thread nD τ) (owing c ss []) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma accM (.remote (Dev.tc n : Thread nD τ) (slotM s) (.dma (sendS s)) hsc) (.dma (recvS s)) hsrc hdst hsem) k) Q) := by
  subst hn
  unfold copyRes barPay
  iintro ⟨⟨HI, Hr, Ht, HI', Hr', Ht'⟩, HO, Ha, ⟨%f, Hs⟩⟩
  unfold slotPts accLeaf
  iapply (Rounds.wp_send_pointsTo 𝒱₀ EX (sched m) (c : Thread nD τ) none (c' := Dev.tc (fwd s c)) (src := accM) (dst := slotM s) (hsc := hsc)
    (sS := .dma (sendS s)) (sem := .dma (recvS s)) (hsrc := hsrc) (hdst := hdst) (hsem := hsem) (q := ShareLeaves.leaf 3 fullShare (leafOf s))
    (fs := accVal m c) (κ₁ := K (c, sendIx s)) (κ₂ := K (fwd s c, recvIx s)) (r₁ := 0) (r₂ := 0) (d₁ := 0) (d₂ := 0) (fd := f) (Es := Set.univ)
    (by rw [duties_send]; exact Finset.mem_singleton_self _) (by rw [duties_recv]; exact Finset.mem_singleton_self _)
    () () N rfl (amount_send m c s 0) (amount_recv m (fwd s c) s 0) (owing c ss []) rfl (W := W)
    (Entails.of_eq (sendPay_eq m c s))
    (Entails.of_eq ((landed_of m (fwd s c) s f _ (by rw [fwd_inv]; rfl)).trans (payload_recv m (fwd s c) s 0).symm)))
  isplitl [HI]; · iexact HI
  isplitl [HI']; · iexact HI'
  isplitl [Ha]; · iexact Ha
  isplitl [Hs]; · iexact Hs
  isplitl [HO]; · iexact HO
  isplitl [Ht]; · iexact Ht
  isplitl [Hr]; · iexact Hr
  isplitl [Ht']; · iexact Ht'
  iexact Hr'

/-- The wait on send semaphore `s` gives the share of the partial sum back. -/
theorem wp_waitSend {α : Type} {Q : α → sProp 𝕄} {k : PUnit → Prog (TpuEff nD τ sig (Elt F) Λ₀ .tc) α}
    {W : Waits sig Unit} (c : Dev nD) (s : Fin 7) {sp sp' : Space} {s₁ s₂ : Shape} {e₁ e₂ : EltTy}
    {src : Memref sig .tc sp s₁ e₁} {dst : Memref sig .tc sp' s₂ e₂} {hs : src.view.WordExact} {hd : dst.view.WordExact}
    (hN : dst.view.dmaCredit = N) :
    iprop((cellInv EX (sched m) (K (c, sendIx s)) (sendCell c s) ∗ atPos EX (sendCell c s) 0 ∅ 0)
        ∗ cred (tallyAt (sendCell c s) () N) ∗ owes (c : Thread nD τ) 0 W)
      ⊢ iprop(((∃ W', owes (c : Thread nD τ) 0 W') ∗ semVal (sendCell c s) 0 ∗ accLeaf m c (leafOf s)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS s) src dst hs hd) k) Q) := by
  iintro ⟨⟨#HI, Hat⟩, Hc, HO⟩ Hk
  iapply (Rounds.wp_wait_rest_token 𝒱₀ EX (sched m) (c : Thread nD τ) none (κ := K (c, sendIx s))
      (wpE_waitDma2_eq 𝒱₀ (c : Thread nD τ) none Set.univ) (Set.mem_univ _) () (O := 0) (W := W) (R := 0) (m := 0) (T := ∅)
      (by rw [Nat.zero_add, expect_send]; exact hN)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close EX (sched m) (Set.mem_univ (K (c, sendIx s))) (fun h => h) (R := 0 + 1) (duties_later m (sendCell c s))) $$ [Hat] with Hz
  · isplitr; · iexact HI
    iexact Hat
  iapply Hk
  isplitl [HO]; · iexists _; iexact HO
  isplitl [Hz]; · iexact Hz
  iapply (Entails.of_eq ((rest_send m c s).trans (by unfold sendPay; rfl))); iexact Hpay

/-- The wait on receive semaphore `s` gives the slot, filled. -/
theorem wp_waitRecv {α : Type} {Q : α → sProp 𝕄} {k : PUnit → Prog (TpuEff nD τ sig (Elt F) Λ₀ .tc) α}
    {W : Waits sig Unit} (c : Dev nD) (s : Fin 7) {sp sp' : Space} {s₁ s₂ : Shape} {e₁ e₂ : EltTy}
    {src : Memref sig .tc sp s₁ e₁} {dst : Memref sig .tc sp' s₂ e₂} {hs : src.view.WordExact} {hd : dst.view.WordExact}
    (hN : dst.view.dmaCredit = N) :
    iprop((cellInv EX (sched m) (K (c, recvIx s)) (recvCell c s) ∗ atPos EX (recvCell c s) 0 ∅ 0)
        ∗ cred (tallyAt (recvCell c s) () N) ∗ owes (c : Thread nD τ) 0 W)
      ⊢ iprop(((∃ W', owes (c : Thread nD τ) 0 W') ∗ semVal (recvCell c s) 0 ∗ slotPts c s (landed m c s)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS s) src dst hs hd) k) Q) := by
  iintro ⟨⟨#HI, Hat⟩, Hc, HO⟩ Hk
  iapply (Rounds.wp_wait_rest_token 𝒱₀ EX (sched m) (c : Thread nD τ) none (κ := K (c, recvIx s))
      (wpE_waitDma2_eq 𝒱₀ (c : Thread nD τ) none Set.univ) (Set.mem_univ _) () (O := 0) (W := W) (R := 0) (m := 0) (T := ∅)
      (by rw [Nat.zero_add, expect_recv]; exact hN)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close EX (sched m) (Set.mem_univ (K (c, recvIx s))) (fun h => h) (R := 0 + 1) (duties_later m (recvCell c s))) $$ [Hat] with Hz
  · isplitr; · iexact HI
    iexact Hat
  iapply Hk
  isplitl [HO]; · iexists _; iexact HO
  isplitl [Hz]; · iexact Hz
  iapply (Entails.of_eq ((rest_recv m c s).trans (by unfold recvPay; rfl))); iexact Hpay

end Cert.KernelIdeal.Exchange
-- ==== Proof.KernelIdeal.Tiles.lean ====
/-
# The tiles a device copies in

The kernel copies four tiles of 256 rows of each input block into a staging buffer of four slots and loads them back
one by one. Here is what a load reads: the rows of the block which the tile names.
-/
module

public import proofs.«01_k».proof.Proof.KernelIdeal.Mesh
public import Idealize.ShloMosaic.Lib.Ring
public import Idealize.ShloMosaic.Lib.Writes
public import Idealize.ShloMosaic.Lib.ValueLayout
public import Idealize.ShloMosaic.Lib.Pipeline.Value

@[expose] public section

set_option maxRecDepth 16384

noncomputable section

namespace Cert.KernelIdeal.Exchange

open Cert.KernelIdeal Cert.KernelIdeal.Gen
open Idealize.ShloMosaic
open Idealize.ShloMosaic.TcCoe
open Idealize.ShloMosaic.ValueIdx

variable {F : FTy → Type} [FloatOps F]

theorem tile_inb (t : Fin 4) : ∀ a, (![t.val, 0, 0] : Fin 3 → ℕ) a + S1x256x2048.size a ≤ S4x256x2048.size a := by
  revert t; decide

/-- The rectangle of slot `t` of a staging buffer. -/
abbrev tileR (t : Fin 4) : Rect S4x256x2048 := Rect.unit (s := S4x256x2048) ![t.val, 0, 0] S1x256x2048.size (tile_inb t)

/-- Slot `t` of the staging buffer `M`, its first axis dropped. -/
abbrev tileM (M : Memref sig .tc .vmem S4x256x2048 .f32) (t : Fin 4) : Memref sig .tc .vmem S256x2048 .f32 :=
  (M.slice (tileR t) (fun _ => rfl)).squeeze S256x2048 squeezes_S1x256x2048_S256x2048

theorem tiles_disjoint (t t' : Fin 4) (h : t ≠ t') : Disjoint (tileR t).set (tileR t').set :=
  Ring.lead_disjoint (s := S4x256x2048) (0 : Fin 3) 1 (fun t : Fin 4 => (![t.val, 0, 0] : Fin 3 → ℕ)) S1x256x2048.size tile_inb
    (fun b => (Nat.one_mul _).symm) rfl t t' h

/-- A load of a slot reads the tile written there. -/
theorem load_own (M : Memref sig .tc .vmem S4x256x2048 .f32) (t : Fin 4) (f : M.view.ty.Contents (Elt F)) (w : S256x2048.Idx → Elt F .f32) :
    M.view.readAt (Elt F) (tileR t).toLoadRect ((tileM M t).view.write (Elt F) f w Finset.univ) = fun j => w (ix2 (j 1) (j 2)) := by
  have h : shapeCast S256x2048 (M.view.readAt (Elt F) (tileR t).toLoadRect ((tileM M t).view.write (Elt F) f w Finset.univ))
      shapeCasts_S1x256x2048_S256x2048 = w :=
    (Memref.read_squeeze_slice M _ (fun _ => rfl) squeezes_S1x256x2048_S256x2048 _ _).symm.trans (View.read_write_univ _ _)
  funext (j : S1x256x2048.Idx)
  refine Eq.trans ?_ (congrFun h (ix2 (j 1) (j 2)))
  unfold shapeCast
  refine congrArg _ ?_
  refine ((reshapeEquiv_ix2_1ab (a := 256) (b := 2048) _ (j 1) (j 2)).trans ?_).symm
  funext a
  fin_cases a
  · exact Subsingleton.elim (α := Fin 1) _ _
  · rfl
  · rfl

/-- A load of a slot does not see what is written to another. -/
theorem load_other (M : Memref sig .tc .vmem S4x256x2048 .f32) (t t' : Fin 4) (h : t ≠ t') (f : M.view.ty.Contents (Elt F))
    (w : S256x2048.Idx → Elt F .f32) :
    M.view.readAt (Elt F) (tileR t).toLoadRect ((tileM M t').view.write (Elt F) f w Finset.univ)
      = M.view.readAt (Elt F) (tileR t).toLoadRect f := by
  refine View.readAt_congr fun i hi => View.write_of_not_mem _ _ _ fun hm => ?_
  rw [View.setOn_univ] at hm
  simp only [tileM, Memref.view_squeeze, View.set_reshape] at hm
  obtain ⟨a, ha, rfl⟩ := Finset.mem_map.mp hi
  rw [show (M.slice (tileR t') (fun _ => rfl)).view.set = (tileR t').set.map M.view.emb from View.set_slice _ _] at hm
  exact Finset.disjoint_left.mp (tiles_disjoint t t' h) ha ((Finset.mem_map' _).mp hm)

/-- The staging buffer after the four copies. -/
abbrev staged (M : Memref sig .tc .vmem S4x256x2048 .f32) (f : M.view.ty.Contents (Elt F)) (w : Fin 4 → S256x2048.Idx → Elt F .f32) :
    M.view.ty.Contents (Elt F) :=
  (tileM M 3).view.write (Elt F) ((tileM M 2).view.write (Elt F) ((tileM M 1).view.write (Elt F)
    ((tileM M 0).view.write (Elt F) f (w 0) Finset.univ) (w 1) Finset.univ) (w 2) Finset.univ) (w 3) Finset.univ

/-- After the four copies a load of slot `t` reads tile `t`. -/
theorem load_staged (M : Memref sig .tc .vmem S4x256x2048 .f32) (t : Fin 4) (f : M.view.ty.Contents (Elt F))
    (w : Fin 4 → S256x2048.Idx → Elt F .f32) :
    M.view.readAt (Elt F) (tileR t).toLoadRect (staged M f w) = fun j => w t (ix2 (j 1) (j 2)) := by
  match t with
  | 0 => rw [load_other M 0 3 (by decide), load_other M 0 2 (by decide), load_other M 0 1 (by decide), load_own]
  | 1 => rw [load_other M 1 3 (by decide), load_other M 1 2 (by decide), load_own]
  | 2 => rw [load_other M 2 3 (by decide), load_own]
  | 3 => rw [load_own]

/-- Tile `t` of an input block, as its copy reads it. -/
theorem read_block {sp : Space} (M : Memref sig .tc sp S2048x2048 .f32) (c : Dev nD) (t : Fin 4)
    (hb : ∀ a, k0_off1 c (BitVec.ofNat 32 (256 * t.val)) a + S256x2048.size a ≤ S2048x2048.size a)
    (hs : ∀ a, (Rect.unit (s := S2048x2048) (k0_off1 c (BitVec.ofNat 32 (256 * t.val))) S256x2048.size hb).stride a = 1)
    (f : M.view.ty.Contents (Elt F)) (r : Fin 256) (j : Fin 2048) :
    (M.slice (Rect.unit (s := S2048x2048) (k0_off1 c (BitVec.ofNat 32 (256 * t.val))) S256x2048.size hb) hs).view.read (Elt F) f (ix2 r j)
      = M.view.read (Elt F) f (ix2 (tileRow c t r) j) := by
  refine congrArg (M.view.read (Elt F) f) (funext fun a => Fin.ext ?_)
  have e := congrFun (k0_off1_eq c t)
  fin_cases a
  · show k0_off1 c (BitVec.ofNat 32 (256 * t.val)) 0 + 1 * r.val = _
    rw [e 0, Nat.one_mul]; rfl
  · show k0_off1 c (BitVec.ofNat 32 (256 * t.val)) 1 + 1 * j.val = _
    rw [e 1, Nat.one_mul]; exact Nat.zero_add _

/-- What the load of tile `t` gives, once the copies have read a block `b` by tiles: the rows of tile `t`. -/
theorem load_tile (M : Memref sig .tc .vmem S4x256x2048 .f32) (c : Dev nD) (t : Fin 4) (f : M.view.ty.Contents (Elt F))
    (w : Fin 4 → S256x2048.Idx → Elt F .f32) (b : Vec F S2048x2048 .f32) (hw : ∀ r j, w t (ix2 r j) = b (ix2 (tileRow c t r) j)) :
    M.view.readAt (Elt F) (tileR t).toLoadRect (staged M f w) = tile b c t := by
  rw [load_staged]; unfold tile
  exact funext fun j => hw (j 1) (j 2)

end Cert.KernelIdeal.Exchange
-- ==== Proof.KernelIdeal.Body.lean ====
/-
# The run of the kernel's body on one device

From what a device holds at the start (`bodyPre`) the body runs to its end and leaves what the launch expects back
(`bodyPost`): the result in the output's staging buffer, the input blocks as they were, every semaphore at zero.
-/
module

public import proofs.«01_k».proof.Proof.KernelIdeal.Steps
public import proofs.«01_k».proof.Proof.KernelIdeal.Tiles

@[expose] public section

set_option maxRecDepth 16384

noncomputable section

namespace Cert.KernelIdeal.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL (I := Fin 7) [0, 1, 2, 3, 4, 5, 6] (by decide) (by decide) Φ

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL (I := Fin 8) [0, 1, 2, 3, 4, 5, 6, 7] (by decide) (by decide) Φ

/-- The semaphores of the eight copies inside a device. -/
def localS (i : Fin 8) : DmaSem sig := ⟨15 + i.val, by show _ < 23; omega⟩

/-- Those semaphores at zero. -/
def locals (c : Dev nD) : sProp 𝕄 := bigSep Finset.univ fun i : Fin 8 => semVal ((c : Thread nD τ), .dma (localS i)) 0

theorem locals_eq (c : Dev nD) : (locals c : sProp 𝕄)
    = iprop(semVal ((c : Thread nD τ), .dma (15 : DmaSem sig)) 0 ∗ semVal ((c : Thread nD τ), .dma (16 : DmaSem sig)) 0
      ∗ semVal ((c : Thread nD τ), .dma (17 : DmaSem sig)) 0 ∗ semVal ((c : Thread nD τ), .dma (18 : DmaSem sig)) 0
      ∗ semVal ((c : Thread nD τ), .dma (19 : DmaSem sig)) 0 ∗ semVal ((c : Thread nD τ), .dma (20 : DmaSem sig)) 0
      ∗ semVal ((c : Thread nD τ), .dma (21 : DmaSem sig)) 0 ∗ semVal ((c : Thread nD τ), .dma (22 : DmaSem sig)) 0) :=
  bigSep_fin8 _

variable (m : (ℓ : Loc nD τ sig) → Buf (Elt F) ℓ) (K : Dev nD × Fin 15 → ℕ)

theorem slotPts_def (c : Dev nD) (s : Fin 7) (f : Buf (Elt F) ((c : Thread nD τ).loc cc0_scratch3)) :
    (slotPts c s f : sProp 𝕄) = ((slotM s).view.loc (c : Thread nD τ) ↦[(slotM s).view.set]{fullShare} f) := rfl

/-- Buffer `b` of device `c`, whole, at some contents. -/
def anyAt (c : Dev nD) (b : Ref sig .tc) : sProp 𝕄 :=
  iprop(∃ f : Buf (Elt F) ((c : Thread nD τ).loc b), (Memref.whole b).view.loc (c : Thread nD τ) ↦{fullShare} f)

/-- Buffer `b` of device `c`, whole, at its contents in the launch memory. -/
def kept (c : Dev nD) (b : Ref sig .tc) : sProp 𝕄 :=
  (Memref.whole b).view.loc (c : Thread nD τ) ↦{fullShare} m ((c : Thread nD τ).loc b)

/-- The ghost state of the exchange on device `c`. -/
def ghost (c : Dev nD) : sProp 𝕄 :=
  iprop((bigSep Finset.univ fun s => sigRes m K c s) ∗ (bigSep Finset.univ fun s => copyRes m K c s)
    ∗ (bigSep Finset.univ fun s => waitRes m K c s) ∗ barRes m K c)

/-- What device `c` is owed: seven signals, and one copy into each slot. -/
def dues (c : Dev nD) : sProp 𝕄 :=
  iprop(cred (tallyAt (barCell c) () 7) ∗ (bigSep Finset.univ fun s => cred (tallyAt (recvCell c s) () N)) ∗ levAts L lv)

/-- What device `c`'s body starts from. -/
def bodyPre (c : Dev nD) (W : Waits sig Unit) : sProp 𝕄 :=
  iprop(ghost m K c ∗ dues c ∗ locals c ∗ (kept m c main_arg0 ∗ kept m c main_arg1)
    ∗ (anyAt c cc0_scratch0 ∗ anyAt c cc0_scratch1 ∗ anyAt c cc0_scratch2 ∗ anyAt c cc0_scratch3) ∗ anyAt c cc0_stg0_0
    ∗ owes (c : Thread nD τ) (owing c slots slots) W)

/-- What is left of the exchange: its semaphores, all at zero. -/
def rested (c : Dev nD) : sProp 𝕄 :=
  iprop(semVal (barCell c) 0 ∗ (bigSep Finset.univ fun s => semVal (sendCell c s) 0) ∗ (bigSep Finset.univ fun s => semVal (recvCell c s) 0))

/-- What device `c`'s body ends with. -/
def bodyPost (c : Dev nD) : sProp 𝕄 :=
  iprop(rested c ∗ locals c ∗ (kept m c main_arg0 ∗ kept m c main_arg1)
    ∗ (anyAt (F := F) c cc0_scratch0 ∗ anyAt (F := F) c cc0_scratch1 ∗ anyAt (F := F) c cc0_scratch2 ∗ anyAt (F := F) c cc0_scratch3)
    ∗ (((c : Thread nD τ).loc cc0_stg0_0) ↦{fullShare} outVal m c) ∗ ∃ W, owes (c : Thread nD τ) 0 W)

/-- A store over the whole of the partial sum's buffer, or of the output's. -/
theorem store_acc (f w) : (Memref.whole cc0_scratch2).view.writes (Elt F) f
    [⟨Rect.unit ![0, 0] S2x2048.size inb_S2x2048_S2x2048_0_0, w⟩] = w := by
  rw [View.writes_singleton]
  exact Memref.write_access_unit_zero_univ (Elt F) cc0_scratch2 (off := ![0, 0]) (show (![0, 0] : Fin 2 → ℕ) = fun _ => 0 by decide)
    inb_S2x2048_S2x2048_0_0 f w

theorem store_out (f w) : (Memref.whole cc0_stg0_0).view.writes (Elt F) f
    [⟨Rect.unit ![0, 0] S2x2048.size inb_S2x2048_S2x2048_0_0, w⟩] = w := by
  rw [View.writes_singleton]
  exact Memref.write_access_unit_zero_univ (Elt F) cc0_stg0_0 (off := ![0, 0]) (show (![0, 0] : Fin 2 → ℕ) = fun _ => 0 by decide)
    inb_S2x2048_S2x2048_0_0 f w

set_option sl_exec.dmaWindow true in
set_option maxHeartbeats 4000000 in
/-- The body of the kernel on device `c`. -/
theorem sound_body (c : Dev nD) (W : Waits sig Unit) (Kt : PUnit → sProp 𝕄) :
    iprop(bodyPre m K c W ∗ (bodyPost m c -∗ Kt ⟨⟩))
      ⊢ wp frame (wpE (defs₀ (F := F)) 𝒱₀ c none) Set.univ
          (cc0_body (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6) Kt := by
  simp only [cc0_body_eq_skeleton]; unfold cc0_body_skel
  unfold bodyPre ghost dues waitRes anyAt kept
  rw [bigSep_fin7, bigSep_fin7, bigSep_fin7, bigSep_fin7, locals_eq]
  have hmw : ∀ q : DmaSem sig, 14 < q.val → ((levAts L lv : sProp 𝕄) ⊢ MayWait (c : Thread nD τ) (.dma q) default (owing c slots [])) :=
    fun q hq => mayWait_low c q (by omega) slots []
  iintro ⟨⟨⟨⟨Hs0, Hs1, Hs2, Hs3, Hs4, Hs5, Hs6⟩, ⟨Hc0, Hc1, Hc2, Hc3, Hc4, Hc5, Hc6⟩, ⟨Hw0, Hw1, Hw2, Hw3, Hw4, Hw5, Hw6⟩, Hbar⟩,
    ⟨Hcb, ⟨Hr0, Hr1, Hr2, Hr3, Hr4, Hr5, Hr6⟩, #Hlev⟩, ⟨Hl0, Hl1, Hl2, Hl3, Hl4, Hl5, Hl6, Hl7⟩, ⟨Hx, Hdy⟩,
    ⟨⟨%fxb, Hxb⟩, ⟨%fdb, Hdb⟩, ⟨%fa, Hacc⟩, ⟨%fr, Hrecv⟩⟩, ⟨%fo, Hout⟩, HO⟩, Hk⟩
  ihave Hslots := (Entails.of_eq ((slots_split c fr).trans (bigSep_fin7 _))) $$ Hrecv
  icases Hslots with ⟨Hv0, Hv1, Hv2, Hv3, Hv4, Hv5, Hv6⟩
  sl_exec
  iapply (wp_sig m K c _ 0 (dev1_eq c) slots [1, 2, 3, 4, 5, 6]) $$ [Hs0 HO Hv2]
  · isplitl [Hs0]; · iexact Hs0
    isplitl [HO]; · iexact HO
    iexists fr; iexact Hv2
  iintro HO
  sl_exec
  iapply (wp_sig m K c _ 1 (dev2_eq c) slots [2, 3, 4, 5, 6]) $$ [Hs1 HO Hv1]
  · isplitl [Hs1]; · iexact Hs1
    isplitl [HO]; · iexact HO
    iexists fr; iexact Hv1
  iintro HO
  sl_exec
  iapply (wp_sig m K c _ 2 (dev3_eq c) slots [3, 4, 5, 6]) $$ [Hs2 HO Hv0]
  · isplitl [Hs2]; · iexact Hs2
    isplitl [HO]; · iexact HO
    iexists fr; iexact Hv0
  iintro HO
  sl_exec
  iapply (wp_sig m K c _ 3 (dev4_eq c) slots [4, 5, 6]) $$ [Hs3 HO Hv3]
  · isplitl [Hs3]; · iexact Hs3
    isplitl [HO]; · iexact HO
    iexists fr; iexact Hv3
  iintro HO
  sl_exec
  iapply (wp_sig m K c _ 4 (dev5_eq c) slots [5, 6]) $$ [Hs4 HO Hv6]
  · isplitl [Hs4]; · iexact Hs4
    isplitl [HO]; · iexact HO
    iexists fr; iexact Hv6
  iintro HO
  sl_exec
  iapply (wp_sig m K c _ 5 (dev6_eq c) slots [6]) $$ [Hs5 HO Hv5]
  · isplitl [Hs5]; · iexact Hs5
    isplitl [HO]; · iexact HO
    iexists fr; iexact Hv5
  iintro HO
  sl_exec
  iapply (wp_sig m K c _ 6 (dev7_eq c) slots []) $$ [Hs6 HO Hv4]
  · isplitl [Hs6]; · iexact Hs6
    isplitl [HO]; · iexact HO
    iexists fr; iexact Hv4
  iintro HO
  sl_exec
  have hX : ∀ t : Fin 4, (Memref.whole cc0_scratch0).view.readAt (Elt F) (tileR t).toLoadRect (staged (Memref.whole cc0_scratch0) fxb
      ![sound_body.sl.dma0 m c, sound_body.sl.dma0_2 m c, sound_body.sl.dma0_4 m c, sound_body.sl.dma0_6 m c]) = tile (xB m c) c t := fun t =>
    load_tile (Memref.whole cc0_scratch0) c t fxb _ (xB m c) fun r j => by
      unfold xB; match t with
      | 0 => show sound_body.sl.dma0 m c (ix2 r j) = _; unfold sound_body.sl.dma0; exact read_block (Memref.whole main_arg0) c 0 _ _ (m ((c : Thread nD τ).loc main_arg0)) r j
      | 1 => show sound_body.sl.dma0_2 m c (ix2 r j) = _; unfold sound_body.sl.dma0_2; exact read_block (Memref.whole main_arg0) c 1 _ _ (m ((c : Thread nD τ).loc main_arg0)) r j
      | 2 => show sound_body.sl.dma0_4 m c (ix2 r j) = _; unfold sound_body.sl.dma0_4; exact read_block (Memref.whole main_arg0) c 2 _ _ (m ((c : Thread nD τ).loc main_arg0)) r j
      | 3 => show sound_body.sl.dma0_6 m c (ix2 r j) = _; unfold sound_body.sl.dma0_6; exact read_block (Memref.whole main_arg0) c 3 _ _ (m ((c : Thread nD τ).loc main_arg0)) r j
  have hD : ∀ t : Fin 4, (Memref.whole cc0_scratch1).view.readAt (Elt F) (tileR t).toLoadRect (staged (Memref.whole cc0_scratch1) fdb
      ![sound_body.sl.dma0_1 m c, sound_body.sl.dma0_3 m c, sound_body.sl.dma0_5 m c, sound_body.sl.dma0_7 m c]) = tile (dyB m c) c t := fun t =>
    load_tile (Memref.whole cc0_scratch1) c t fdb _ (dyB m c) fun r j => by
      unfold dyB; match t with
      | 0 => show sound_body.sl.dma0_1 m c (ix2 r j) = _; unfold sound_body.sl.dma0_1; exact read_block (Memref.whole main_arg1) c 0 _ _ (m ((c : Thread nD τ).loc main_arg1)) r j
      | 1 => show sound_body.sl.dma0_3 m c (ix2 r j) = _; unfold sound_body.sl.dma0_3; exact read_block (Memref.whole main_arg1) c 1 _ _ (m ((c : Thread nD τ).loc main_arg1)) r j
      | 2 => show sound_body.sl.dma0_5 m c (ix2 r j) = _; unfold sound_body.sl.dma0_5; exact read_block (Memref.whole main_arg1) c 2 _ _ (m ((c : Thread nD τ).loc main_arg1)) r j
      | 3 => show sound_body.sl.dma0_7 m c (ix2 r j) = _; unfold sound_body.sl.dma0_7; exact read_block (Memref.whole main_arg1) c 3 _ _ (m ((c : Thread nD τ).loc main_arg1)) r j
  have h3 : sound_body.sl.r_2 m c fxb fdb = acc3 m c := by
    unfold acc3 acc2 acc1
    rw [← hX 0, ← hX 1, ← hX 2, ← hD 0, ← hD 1, ← hD 2]; rfl
  have h377 : sound_body.sl.v377 m c fxb = tile (xB m c) c 3 := hX 3
  have h379 : sound_body.sl.v379 m c fdb = tile (dyB m c) c 3 := hD 3
  have hA : (Memref.whole cc0_scratch2).view.writes (Elt F) fa
      [⟨Rect.unit ![0, 0] S2x2048.size inb_S2x2048_S2x2048_0_0,
          k0_pay7 (sound_body.sl.r_2 m c fxb fdb) (sound_body.sl.v377 m c fxb) (sound_body.sl.v379 m c fdb)⟩] = accVal m c := by
    rw [store_acc, h3, h377, h379]; unfold accVal; rfl
  ihave Ha := (Entails.of_eq ((congrArg (fun f => ((c : Thread nD τ).loc cc0_scratch2 ↦{fullShare} f : sProp 𝕄)) hA).trans
    ((acc_split m c).trans (bigSep_fin8 _)))) $$ Hacc
  icases Ha with ⟨Ha0, Ha1, Ha2, Ha3, Ha4, Ha5, Ha6, Ha7⟩
  iapply (wp_bar m K c slots) $$ [Hbar Hcb HO]
  · isplitl [Hbar]; · iexact Hbar
    isplitl [Hcb]; · iexact Hcb
    isplitr; · iexact Hlev
    iexact HO
  iintro ⟨⟨%W1, HO⟩, Hbz, Hp⟩
  ihave Hp := (Entails.of_eq (bigSep_fin7 _)) $$ Hp
  icases Hp with ⟨Hp0, Hp1, Hp2, Hp3, Hp4, Hp5, Hp6⟩
  sl_exec
  iapply (wp_copy m K c _ 0 (dev8_eq c) [1, 2, 3, 4, 5, 6]) $$ [Hc0 HO Ha0 Hp0]
  · isplitl [Hc0]; · iexact Hc0
    isplitl [HO]; · iexact HO
    isplitl [Ha0]; · iexact Ha0
    iexact Hp0
  iintro ⟨Hq0, HO⟩
  sl_exec
  iapply (wp_copy m K c _ 1 (dev9_eq c) [2, 3, 4, 5, 6]) $$ [Hc1 HO Ha1 Hp1]
  · isplitl [Hc1]; · iexact Hc1
    isplitl [HO]; · iexact HO
    isplitl [Ha1]; · iexact Ha1
    iexact Hp1
  iintro ⟨Hq1, HO⟩
  sl_exec
  iapply (wp_copy m K c _ 2 (dev10_eq c) [3, 4, 5, 6]) $$ [Hc2 HO Ha2 Hp2]
  · isplitl [Hc2]; · iexact Hc2
    isplitl [HO]; · iexact HO
    isplitl [Ha2]; · iexact Ha2
    iexact Hp2
  iintro ⟨Hq2, HO⟩
  sl_exec
  iapply (wp_copy m K c _ 3 (dev11_eq c) [4, 5, 6]) $$ [Hc3 HO Ha3 Hp3]
  · isplitl [Hc3]; · iexact Hc3
    isplitl [HO]; · iexact HO
    isplitl [Ha3]; · iexact Ha3
    iexact Hp3
  iintro ⟨Hq3, HO⟩
  sl_exec
  iapply (wp_copy m K c _ 4 (dev12_eq c) [5, 6]) $$ [Hc4 HO Ha4 Hp4]
  · isplitl [Hc4]; · iexact Hc4
    isplitl [HO]; · iexact HO
    isplitl [Ha4]; · iexact Ha4
    iexact Hp4
  iintro ⟨Hq4, HO⟩
  sl_exec
  iapply (wp_copy m K c _ 5 (dev13_eq c) [6]) $$ [Hc5 HO Ha5 Hp5]
  · isplitl [Hc5]; · iexact Hc5
    isplitl [HO]; · iexact HO
    isplitl [Ha5]; · iexact Ha5
    iexact Hp5
  iintro ⟨Hq5, HO⟩
  sl_exec
  iapply (wp_copy m K c _ 6 (dev14_eq c) []) $$ [Hc6 HO Ha6 Hp6]
  · isplitl [Hc6]; · iexact Hc6
    isplitl [HO]; · iexact HO
    isplitl [Ha6]; · iexact Ha6
    iexact Hp6
  iintro ⟨Hq6, HO⟩
  sl_exec
  icases Hw0 with ⟨Hws, Hwr⟩
  iapply (wp_waitSend m K c 0 rfl) $$ [Hws Hq0 HO]
  · isplitl [Hws]; · iexact Hws
    isplitl [Hq0]; · iexact Hq0
    iexact HO
  iintro ⟨⟨%W0, HO⟩, Hy0, Ha0⟩
  sl_exec
  iapply (wp_waitRecv m K c 0 (slot_credit 0)) $$ [Hwr Hr0 HO]
  · isplitl [Hwr]; · iexact Hwr
    isplitl [Hr0]; · iexact Hr0
    iexact HO
  iintro ⟨⟨%U0, HO⟩, Hz0, Hv0⟩
  ihave Hv0 := (Entails.of_eq (slotPts_def c 0 _)) $$ Hv0
  sl_exec
  icases Hw1 with ⟨Hws, Hwr⟩
  iapply (wp_waitSend m K c 1 rfl) $$ [Hws Hq1 HO]
  · isplitl [Hws]; · iexact Hws
    isplitl [Hq1]; · iexact Hq1
    iexact HO
  iintro ⟨⟨%W1, HO⟩, Hy1, Ha1⟩
  sl_exec
  iapply (wp_waitRecv m K c 1 (slot_credit 1)) $$ [Hwr Hr1 HO]
  · isplitl [Hwr]; · iexact Hwr
    isplitl [Hr1]; · iexact Hr1
    iexact HO
  iintro ⟨⟨%U1, HO⟩, Hz1, Hv1⟩
  ihave Hv1 := (Entails.of_eq (slotPts_def c 1 _)) $$ Hv1
  sl_exec
  icases Hw2 with ⟨Hws, Hwr⟩
  iapply (wp_waitSend m K c 2 rfl) $$ [Hws Hq2 HO]
  · isplitl [Hws]; · iexact Hws
    isplitl [Hq2]; · iexact Hq2
    iexact HO
  iintro ⟨⟨%W2, HO⟩, Hy2, Ha2⟩
  sl_exec
  iapply (wp_waitRecv m K c 2 (slot_credit 2)) $$ [Hwr Hr2 HO]
  · isplitl [Hwr]; · iexact Hwr
    isplitl [Hr2]; · iexact Hr2
    iexact HO
  iintro ⟨⟨%U2, HO⟩, Hz2, Hv2⟩
  ihave Hv2 := (Entails.of_eq (slotPts_def c 2 _)) $$ Hv2
  sl_exec
  icases Hw3 with ⟨Hws, Hwr⟩
  iapply (wp_waitSend m K c 3 rfl) $$ [Hws Hq3 HO]
  · isplitl [Hws]; · iexact Hws
    isplitl [Hq3]; · iexact Hq3
    iexact HO
  iintro ⟨⟨%W3, HO⟩, Hy3, Ha3⟩
  sl_exec
  iapply (wp_waitRecv m K c 3 (slot_credit 3)) $$ [Hwr Hr3 HO]
  · isplitl [Hwr]; · iexact Hwr
    isplitl [Hr3]; · iexact Hr3
    iexact HO
  iintro ⟨⟨%U3, HO⟩, Hz3, Hv3⟩
  ihave Hv3 := (Entails.of_eq (slotPts_def c 3 _)) $$ Hv3
  sl_exec
  icases Hw4 with ⟨Hws, Hwr⟩
  iapply (wp_waitSend m K c 4 rfl) $$ [Hws Hq4 HO]
  · isplitl [Hws]; · iexact Hws
    isplitl [Hq4]; · iexact Hq4
    iexact HO
  iintro ⟨⟨%W4, HO⟩, Hy4, Ha4⟩
  sl_exec
  iapply (wp_waitRecv m K c 4 (slot_credit 4)) $$ [Hwr Hr4 HO]
  · isplitl [Hwr]; · iexact Hwr
    isplitl [Hr4]; · iexact Hr4
    iexact HO
  iintro ⟨⟨%U4, HO⟩, Hz4, Hv4⟩
  ihave Hv4 := (Entails.of_eq (slotPts_def c 4 _)) $$ Hv4
  sl_exec
  icases Hw5 with ⟨Hws, Hwr⟩
  iapply (wp_waitSend m K c 5 rfl) $$ [Hws Hq5 HO]
  · isplitl [Hws]; · iexact Hws
    isplitl [Hq5]; · iexact Hq5
    iexact HO
  iintro ⟨⟨%W5, HO⟩, Hy5, Ha5⟩
  sl_exec
  iapply (wp_waitRecv m K c 5 (slot_credit 5)) $$ [Hwr Hr5 HO]
  · isplitl [Hwr]; · iexact Hwr
    isplitl [Hr5]; · iexact Hr5
    iexact HO
  iintro ⟨⟨%U5, HO⟩, Hz5, Hv5⟩
  ihave Hv5 := (Entails.of_eq (slotPts_def c 5 _)) $$ Hv5
  sl_exec
  icases Hw6 with ⟨Hws, Hwr⟩
  iapply (wp_waitSend m K c 6 rfl) $$ [Hws Hq6 HO]
  · isplitl [Hws]; · iexact Hws
    isplitl [Hq6]; · iexact Hq6
    iexact HO
  iintro ⟨⟨%W6, HO⟩, Hy6, Ha6⟩
  sl_exec
  iapply (wp_waitRecv m K c 6 (slot_credit 6)) $$ [Hwr Hr6 HO]
  · isplitl [Hwr]; · iexact Hwr
    isplitl [Hr6]; · iexact Hr6
    iexact HO
  iintro ⟨⟨%U6, HO⟩, Hz6, Hv6⟩
  ihave Hv6 := (Entails.of_eq (slotPts_def c 6 _)) $$ Hv6
  sl_exec
  have hO : k0_pay1 (sound_body.sl.r_7 m c fxb fdb) (recvsM.view.readAt (Elt F)
      (Rect.unit (s := S7x2x2048) ![6, 0, 0] S1x2x2048.size inb_S7x2x2048_S1x2x2048_6_0_0).toLoadRect (landed m c 6)) = outVal m c := by
    unfold outVal acc4
    rw [← load_landed m c 0, ← load_landed m c 1, ← load_landed m c 2, ← load_landed m c 3, ← load_landed m c 4, ← load_landed m c 5,
      ← load_landed m c 6, ← h3, ← h377, ← h379]
    rfl
  rw [wp_ret]; imodintro
  iapply Hk
  unfold bodyPost rested anyAt kept
  rw [bigSep_fin7, bigSep_fin7, locals_eq]
  isplitl [Hbz Hy0 Hy1 Hy2 Hy3 Hy4 Hy5 Hy6 Hz0 Hz1 Hz2 Hz3 Hz4 Hz5 Hz6]
  · isplitl [Hbz]; · iexact Hbz
    isplitl [Hy0 Hy1 Hy2 Hy3 Hy4 Hy5 Hy6]
    · iframe
    · iframe
  isplitl [Hl0 Hl1 Hl2 Hl3 Hl4 Hl5 Hl6 Hl7]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  isplitl [Hx Hdy]
  · isplitl [Hx] <;> iassumption
  isplitl [Hxb Hdb Ha0 Ha1 Ha2 Ha3 Ha4 Ha5 Ha6 Ha7 Hv0 Hv1 Hv2 Hv3 Hv4 Hv5 Hv6]
  · isplitl [Hxb]; · iexists _; iexact Hxb
    isplitl [Hdb]; · iexists _; iexact Hdb
    isplitl [Ha0 Ha1 Ha2 Ha3 Ha4 Ha5 Ha6 Ha7]
    · iexists (accVal m c)
      iapply (Entails.of_eq ((acc_split m c).trans (bigSep_fin8 _)).symm)
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      iexact Ha7
    · iapply (slots_join c (fun s => landed m c s))
      iapply (Entails.of_eq (bigSep_fin7 _).symm)
      unfold slotPts
      isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      iexact Hv6
  isplitl [Hout]
  · iapply (Entails.of_eq (congrArg (fun f => ((c : Thread nD τ).loc cc0_stg0_0 ↦{fullShare} f : sProp 𝕄)) ((store_out fo _).trans hO)))
    iexact Hout
  iexists _; iexact HO

end Cert.KernelIdeal.Exchange
-- ==== Proof.KernelIdeal.Setup.lean ====
/-
# Setting the exchange up

At launch every semaphore is zero and the duties of all rounds are there to be given out. This module opens the
fifteen semaphores of every device which the exchange runs on, and gives each device the rights it uses: to pay its
peers' barrier and receive duties and its own send duties, and to wait on its own semaphores.
-/
module

public import proofs.«01_k».proof.Proof.KernelIdeal.Body

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 15 → ℕ)

/-- A separating conjunction over an index type made of two parts. -/
theorem bigSep_parts {I I₁ I₂ : Type} [Fintype I] [Fintype I₁] [Fintype I₂] (e : I₁ ⊕ I₂ → I) (he : Function.Bijective e) (Φ : I → sProp 𝕄) :
    bigSep Finset.univ Φ = iprop((bigSep Finset.univ fun i => Φ (e (.inl i))) ∗ bigSep Finset.univ fun i => Φ (e (.inr i))) :=
  (bigSep_univ_equiv (Equiv.ofBijective e he) Φ).trans (bigSep_univ_sum _)

/-- Two separating conjunctions in the other order. -/
theorem bigSep_turn {I J : Type} [Fintype I] [Fintype J] (Φ : I → J → sProp 𝕄) :
    (bigSep Finset.univ fun i => bigSep Finset.univ fun j => Φ i j) = bigSep Finset.univ fun j => bigSep Finset.univ fun i => Φ i j :=
  (bigSep_univ_prod fun p : I × J => Φ p.1 p.2).symm.trans
    ((bigSep_univ_equiv (Equiv.prodComm J I) fun p : I × J => Φ p.1 p.2).trans (bigSep_univ_prod _))

/-! ## The semaphores -/

/-- Semaphore `k` of the exchange on device `c`. -/
def kcell (ck : Dev nD × Fin 15) : GSem nD τ sig := ((ck.1 : Thread nD τ), csem ck.2)

theorem csem_send (s : Fin 7) : csem (sendIx s) = .dma (sendS s) := by revert s; decide
theorem csem_recv (s : Fin 7) : csem (recvIx s) = .dma (recvS s) := by revert s; decide
theorem csem_injective : Function.Injective csem := by decide
theorem kcell_bar (c : Dev nD) : kcell (c, 0) = barCell c := rfl
theorem kcell_send (c : Dev nD) (s : Fin 7) : kcell (c, sendIx s) = sendCell c s := congrArg (Prod.mk _) (csem_send s)
theorem kcell_recv (c : Dev nD) (s : Fin 7) : kcell (c, recvIx s) = recvCell c s := congrArg (Prod.mk _) (csem_recv s)
theorem kcell_injective : Function.Injective kcell := fun a b h =>
  Prod.ext (congrArg (fun g : GSem nD τ sig => g.1.1) h) (csem_injective (congrArg Prod.snd h))

/-- The fifteen by kind. -/
def kinds : Unit ⊕ Fin 7 ⊕ Fin 7 → Fin 15 := Sum.elim (fun _ => 0) (Sum.elim sendIx recvIx)
theorem kinds_bijective : Function.Bijective kinds := by decide

/-- A conjunction over the fifteen, by kind. -/
theorem bigSep_kinds (Φ : Fin 15 → sProp 𝕄) : bigSep Finset.univ Φ
    = iprop(Φ 0 ∗ (bigSep Finset.univ fun s => Φ (sendIx s)) ∗ bigSep Finset.univ fun s => Φ (recvIx s)) := by
  rw [bigSep_parts kinds kinds_bijective, bigSep_univ_sum, Finset.univ_unique, bigSep_singleton]
  rfl

/-- The kernel's own semaphores: sends, receives, local copies. -/
def osem (k : Fin 22) : SemLoc sig := .dma ⟨1 + k.val, by show _ < 23; omega⟩
theorem ownSemFacts : Pipeline.OwnSemFacts cfg0.spec osem := by decide

/-- The kernel's own semaphores by kind. -/
def own : (Fin 7 ⊕ Fin 7) ⊕ Fin 8 → Fin 22 :=
  Sum.elim (Sum.elim (fun s => ⟨s.val, by omega⟩) (fun s => ⟨7 + s.val, by omega⟩)) (fun i => ⟨14 + i.val, by omega⟩)
theorem own_bijective : Function.Bijective own := by decide

theorem osem_send (s : Fin 7) : osem (own (.inl (.inl s))) = .dma (sendS s) := by revert s; decide
theorem osem_recv (s : Fin 7) : osem (own (.inl (.inr s))) = .dma (recvS s) := by revert s; decide
theorem osem_local (i : Fin 8) : osem (own (.inr i)) = .dma (localS i) := by revert i; decide

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores at zero, by kind. -/
theorem ownSems0_eq (c : Dev nD) : (Pipeline.ownSems0 (Ix := Unit) (Name := ℕ) (U := UU) (Lvl := ℕ) (Val := Elt F) (τ := τ) osem c : sProp 𝕄)
    = iprop(((bigSep Finset.univ fun s => semVal (sendCell c s) 0) ∗ (bigSep Finset.univ fun s => semVal (recvCell c s) 0)) ∗ locals c) := by
  unfold Pipeline.ownSems0 locals
  rw [bigSep_parts own own_bijective, bigSep_univ_sum]
  simp only [osem_send, osem_recv, osem_local]
  rfl

/-- All semaphores of a device at zero: the fifteen of the exchange and the eight of the local copies. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 15 => semVal (kcell (c, k)) 0) ∗ locals c) : sProp 𝕄) := by
  rw [ownSems0_eq, unscopedSems0_eq, bigSep_kinds]
  simp only [kcell_send, kcell_recv]
  iintro ⟨⟨⟨HS, HV⟩, HL⟩, HB⟩
  isplitr [HL]
  · isplitl [HB]; · iexact HB
    isplitl [HS] <;> iassumption
  · iexact HL

/-! ## The duties -/

/-- Which semaphore a duty of a device is on, and its name there: the seven of the barrier, then one of each send and
    each receive semaphore. -/
def tokIx : Fin 3 × Fin 7 → SemLoc sig × Fin 7
  | (0, d) => (.reg barS, d)
  | (1, s) => (.dma (sendS s), 0)
  | (2, s) => (.dma (recvS s), 0)
theorem tokIx_injective : Function.Injective tokIx := by decide

def tokOf (cj : Dev nD × (Fin 3 × Fin 7)) : GSem nD τ sig × ℕ × Fin 7 := (((cj.1 : Thread nD τ), (tokIx cj.2).1), 0, (tokIx cj.2).2)
theorem tokOf_injective : Function.Injective tokOf := fun a b h =>
  Prod.ext (congrArg (fun x : GSem nD τ sig × ℕ × Fin 7 => x.1.1.1) h)
    (tokIx_injective (Prod.ext (congrArg (fun x : GSem nD τ sig × ℕ × Fin 7 => x.1.2) h) (congrArg (fun x : GSem nD τ sig × ℕ × Fin 7 => x.2.2) h)))

def exchCells : Finset (GSem nD τ sig) := Finset.univ.map ⟨kcell, kcell_injective⟩
def exchToks : Finset (GSem nD τ sig × ℕ × Fin 7) := Finset.univ.map ⟨tokOf, tokOf_injective⟩

/-- The ghost state at launch. -/
def u₀ : UU :=
  (initOf (Pipeline.cells cfgs cellOf_inj) (Pipeline.launchToks cfgs cellOf_inj), (initOf exchCells exchToks, (1 : Counters)))

theorem ownU_parts (a : UR sig nD τ) (b : UX) :
    (ownU ((a, (b, 1)) : UU) : sProp 𝕄) ⊢ iprop(BI.own (EP a) ∗ BI.own ((EX : Emb UX 𝕄) b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duties on device `c`'s own semaphores. -/
def toks (c : Dev nD) : sProp 𝕄 :=
  iprop((bigSep Finset.univ fun d => dutyTok EX (barCell c) 0 d) ∗ (bigSep Finset.univ fun s => dutyTok EX (sendCell c s) 0 0)
    ∗ bigSep Finset.univ fun s => dutyTok EX (recvCell c s) 0 0)

/-- The duties device `c` pays. -/
def payToks (c : Dev nD) : sProp 𝕄 :=
  iprop((bigSep Finset.univ fun s => dutyTok EX (barCell (fwd s c)) 0 (inv s)) ∗ (bigSep Finset.univ fun s => dutyTok EX (sendCell c s) 0 0)
    ∗ bigSep Finset.univ fun s => dutyTok EX (recvCell (fwd s c) s) 0 0)

/-- Slots and their opposites. -/
def flip : Fin 7 ≃ Fin 7 := ⟨inv, inv, inv_inv, inv_inv⟩

/-- Over all devices together the duties are the same ones: each barrier duty and each receive duty is paid by the
    device at the displacement it is for. -/
theorem toks_around : (bigSep Finset.univ fun c : Dev nD => (toks c : sProp 𝕄)) = bigSep Finset.univ fun c : Dev nD => payToks c := by
  unfold toks payToks
  rw [bigSep_sep', bigSep_sep', bigSep_sep', bigSep_sep',
    bigSep_turn fun (c : Dev nD) d => (dutyTok EX (barCell c) 0 d : sProp 𝕄),
    bigSep_univ_equiv flip fun d => bigSep Finset.univ fun c : Dev nD => (dutyTok EX (barCell c) 0 d : sProp 𝕄),
    bigSep_turn fun (c : Dev nD) s => (dutyTok EX (barCell (fwd s c)) 0 (inv s) : sProp 𝕄),
    bigSep_turn fun (c : Dev nD) s => (dutyTok EX (recvCell c s) 0 0 : sProp 𝕄),
    bigSep_turn fun (c : Dev nD) s => (dutyTok EX (recvCell (fwd s c) s) 0 0 : sProp 𝕄)]
  refine congrArg₂ _ (bigSep_congr fun s _ => ?_) (congrArg₂ _ rfl (bigSep_congr fun s _ => ?_))
  · exact bigSep_univ_equiv (around s) _
  · exact bigSep_univ_equiv (around s) _

/-- What the launch's ghost state gives device `c`. -/
def G (c : Dev nD) : sProp 𝕄 :=
  iprop((bigSep Finset.univ fun k : Fin 15 => roundState EX (sched m) (kcell (c, k)) 0)
    ∗ (bigSep Finset.univ fun k : Fin 15 => iprop(atPos EX (kcell (c, k)) 0 ∅ 0 ∗ reached EX (kcell (c, k)) 0)) ∗ toks c)

/-- What device `c` has once the semaphores are open. -/
def G' (c : Dev nD) : sProp 𝕄 := iprop((∃ K, ghost m K c) ∗ locals c)

theorem fund_exch : BI.own ((EX : Emb UX 𝕄) (initOf exchCells exchToks)) ⊢ (|==> bigSep Finset.univ (G m) : sProp 𝕄) := by
  have hX (Φ : GSem nD τ sig → sProp 𝕄) : bigSep exchCells Φ = bigSep Finset.univ fun c : Dev nD => bigSep Finset.univ fun k : Fin 15 => Φ (kcell (c, k)) := by
    unfold exchCells; rw [bigSep_map, bigSep_univ_prod]; rfl
  have hT : bigSep exchToks (fun x => (dutyTok EX x.1 x.2.1 x.2.2 : sProp 𝕄)) = bigSep Finset.univ fun c : Dev nD => toks c := by
    unfold exchToks; rw [bigSep_map, bigSep_univ_prod]
    exact bigSep_congr fun c _ => by
      unfold toks
      rw [bigSep_univ_prod, bigSep_univ_eq_bigSepL (I := Fin 3) [0, 1, 2] (by decide) (by decide)]
      rfl
  iintro HX
  imod (Rounds.fund EX (sched m) exchCells exchToks) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Opening the semaphores -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c ∗ locals c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 15 => semVal (kcell (c, k)) 0) ∗ bigSep Finset.univ fun k : Fin 15 => roundState EX (sched m) (kcell (c, k)) 0)
      ⊢ (|={Set.univ}=> bigSep Finset.univ fun k => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- What every device may know: all semaphores of the exchange are open, and all their rounds have begun. -/
def records : sProp 𝕄 :=
  iprop((bigSep Finset.univ fun ck : Dev nD × Fin 15 => cellInv EX (sched m) (K ck) (kcell ck))
    ∗ bigSep Finset.univ fun ck : Dev nD × Fin 15 => reached EX (kcell ck) 0)

instance records_persistent : BI.Persistent (records m K) := by unfold records; infer_instance

theorem inv_at (ck : Dev nD × Fin 15) : records m K ⊢ cellInv EX (sched m) (K ck) (kcell ck) := by
  unfold records; exact sep_elim_left.trans (bigSep_elim (Finset.mem_univ ck))
theorem reached_at (ck : Dev nD × Fin 15) : records m K ⊢ reached EX (kcell ck) 0 := by
  unfold records; exact sep_elim_right.trans (bigSep_elim (Finset.mem_univ ck))

theorem inv_send (c : Dev nD) (s : Fin 7) : records m K ⊢ cellInv EX (sched m) (K (c, sendIx s)) (sendCell c s) := by
  rw [← kcell_send]; exact inv_at m K _
theorem inv_recv (c : Dev nD) (s : Fin 7) : records m K ⊢ cellInv EX (sched m) (K (c, recvIx s)) (recvCell c s) := by
  rw [← kcell_recv]; exact inv_at m K _

/-- Something for each of a finite set, when the parts that are not persistent are there for each. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Device `c`'s positions before the rounds of its own semaphores, and the duties it pays. -/
def linear (c : Dev nD) : sProp 𝕄 :=
  iprop((atPos EX (barCell c) 0 ∅ 0 ∗ (bigSep Finset.univ fun s => atPos EX (sendCell c s) 0 ∅ 0) ∗ bigSep Finset.univ fun s => atPos EX (recvCell c s) 0 ∅ 0)
    ∗ payToks c)

theorem sigRes_intro (c : Dev nD) (s : Fin 7) : iprop(records m K ∗ dutyTok EX (barCell (fwd s c)) 0 (inv s)) ⊢ sigRes m K c s := by
  unfold sigRes
  iintro ⟨#HR, Ht⟩
  isplitr; · iapply (inv_at m K (fwd s c, 0)); iexact HR
  isplitr; · iapply (reached_at m K (fwd s c, 0)); iexact HR
  iexact Ht

theorem copyRes_intro (c : Dev nD) (s : Fin 7) :
    iprop(records m K ∗ dutyTok EX (sendCell c s) 0 0 ∗ dutyTok EX (recvCell (fwd s c) s) 0 0) ⊢ copyRes m K c s := by
  unfold copyRes
  iintro ⟨#HR, Ht, Ht'⟩
  isplitr; · iapply (inv_send m K c s); iexact HR
  isplitr; · iapply ((reached_at m K (c, sendIx s)).trans (Entails.of_eq (by rw [kcell_send]))); iexact HR
  isplitl [Ht]; · iexact Ht
  isplitr; · iapply (inv_recv m K (fwd s c) s); iexact HR
  isplitr; · iapply ((reached_at m K (fwd s c, recvIx s)).trans (Entails.of_eq (by rw [kcell_recv]))); iexact HR
  iexact Ht'

theorem waitRes_intro (c : Dev nD) (s : Fin 7) :
    iprop(records m K ∗ atPos EX (sendCell c s) 0 ∅ 0 ∗ atPos EX (recvCell c s) 0 ∅ 0) ⊢ waitRes m K c s := by
  unfold waitRes
  iintro ⟨#HR, Hs, Hr⟩
  isplitl [Hs]
  · isplitr; · iapply (inv_send m K c s); iexact HR
    iexact Hs
  · isplitr; · iapply (inv_recv m K c s); iexact HR
    iexact Hr

theorem ghost_intro (c : Dev nD) : iprop(records m K ∗ linear c) ⊢ ghost m K c := by
  unfold linear payToks ghost barRes
  iintro ⟨#HR, ⟨HaB, HaS, HaV⟩, HtB, HtS, HtV⟩
  isplitl [HtB]
  · iapply (bigSep_with fun s _ => sigRes_intro m K c s); isplitr; · iexact HR
    iexact HtB
  isplitl [HtS HtV]
  · iapply (bigSep_with fun s _ => copyRes_intro m K c s); isplitr; · iexact HR
    rw [bigSep_sep']; isplitl [HtS] <;> iassumption
  isplitl [HaS HaV]
  · iapply (bigSep_with fun s _ => waitRes_intro m K c s); isplitr; · iexact HR
    rw [bigSep_sep']; isplitl [HaS] <;> iassumption
  isplitr; · iapply (inv_at m K (c, 0)); iexact HR
  iexact HaB

theorem regroup :
    (bigSep Finset.univ fun c : Dev nD => iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c ∗ locals c) : sProp 𝕄)
      ⊢ bigSep Finset.univ (G' m) := by
  rw [bigSep_sep', bigSep_sep', bigSep_sep', ← bigSep_univ_prod (fun ck : Dev nD × Fin 15 => iprop(∃ κ : ℕ, cellInv EX (sched m) κ (kcell ck))),
    bigSep_congr (s := Finset.univ) (fun (c : Dev nD) _ => bigSep_sep' Finset.univ (fun k : Fin 15 => (atPos EX (kcell (c, k)) 0 ∅ 0 : sProp 𝕄)) (fun k => reached EX (kcell (c, k)) 0)),
    bigSep_sep', ← bigSep_univ_prod (fun ck : Dev nD × Fin 15 => (reached EX (kcell ck) 0 : sProp 𝕄)), toks_around]
  iintro ⟨HI, ⟨Hat, #HR⟩, Htk, Hloc⟩
  ihave HK := (BI.bigSep_exists_pi Finset.univ (fun (ck : Dev nD × Fin 15) (κ : ℕ) => (cellInv EX (sched m) κ (kcell ck) : sProp 𝕄))) $$ HI
  icases HK with ⟨%K, #HI⟩
  unfold G'
  rw [bigSep_sep']
  isplitr [Hloc]
  · iapply (bigSep_with (R := records m K) fun c _ => (ghost_intro m K c).trans (exists_intro (Φ := fun K => ghost m K c) K))
    isplitr
    · unfold records; isplitl; · iexact HI
      iexact HR
    · iapply ((Entails.of_eq (bigSep_sep' Finset.univ (fun c : Dev nD => bigSep Finset.univ fun k : Fin 15 => (atPos EX (kcell (c, k)) 0 ∅ 0 : sProp 𝕄)) payToks).symm).trans
        (bigSep_mono fun c _ => show _ ⊢ linear c from Entails.of_eq (by
          unfold linear; rw [bigSep_kinds]; simp only [kcell_send, kcell_recv, kcell_bar])))
      isplitl [Hat]; · iexact Hat
      iexact Htk
  · iexact Hloc

/-- From all semaphores at zero and the launch's ghost state, what every device has once the exchange is set up. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices are owed -/

/-- A signal each device owes to the peer at one displacement gives that credit. -/
theorem credit_bars (c : Dev nD) (ss : List (Fin 7)) : ∀ gs : List (Fin 7),
    (Pipeline.launchCred (fun d => owing d ss gs) c : sProp 𝕄)
      ⊢ iprop(Pipeline.launchCred (fun d => owingCopies d ss) c ∗ cred (tallyAt (barCell c) () gs.length))
  | [] => by
    show (Pipeline.launchCred (fun d => owingCopies d ss) c : sProp 𝕄) ⊢ _
    rw [List.length_nil, tallyAt_zero, cred_zero]
    iintro H; isplitl
    · iexact H
    · iempintro
  | s :: gs => by
    show (Pipeline.launchCred (fun d => owing d ss gs + tallyAt (barCell (fwd s d)) () 1) c : sProp 𝕄) ⊢ _
    rw [Pipeline.launchCred_add, List.length_cons, ← tallyAt_add]
    iintro ⟨H, H1⟩
    ihave H' := (credit_bars c ss gs) $$ H
    icases H' with ⟨Hc, Hb⟩
    isplitl [Hc]; · iexact Hc
    iapply (cred_add _ _).2
    isplitl [Hb]; · iexact Hb
    iapply (Pipeline.launchCred_tallyAt (.reg barS) (fwd s) (fwd (inv s)) (inv_fwd s) (fwd_inv s) () 1 c); iexact H1

/-- A copy each device owes to the peer at one displacement gives that credit. -/
theorem credit_copy (c : Dev nD) (s : Fin 7) (ss : List (Fin 7)) :
    (Pipeline.launchCred (fun d => owingCopies d (s :: ss)) c : sProp 𝕄)
      ⊢ iprop(cred (tallyAt (recvCell c s) () N) ∗ Pipeline.launchCred (fun d => owingCopies d ss) c) := by
  show (Pipeline.launchCred (fun d => owingCopies d ss + tallyAt (recvCell (fwd s d) s) () N) c : sProp 𝕄) ⊢ _
  rw [Pipeline.launchCred_add]
  iintro ⟨H, H1⟩
  isplitr [H]
  · iapply (Pipeline.launchCred_tallyAt (.dma (recvS s)) (fwd s) (fwd (inv s)) (inv_fwd s) (fwd_inv s) () N c); iexact H1
  · iexact H

theorem credit_copies (c : Dev nD) :
    (Pipeline.launchCred (fun d => owingCopies d slots) c : sProp 𝕄) ⊢ bigSep Finset.univ fun s => cred (tallyAt (recvCell c s) () N) := by
  rw [bigSep_fin7]
  refine (credit_copy c 0 _).trans (sep_mono_right ?_)
  refine (credit_copy c 1 _).trans (sep_mono_right ?_)
  refine (credit_copy c 2 _).trans (sep_mono_right ?_)
  refine (credit_copy c 3 _).trans (sep_mono_right ?_)
  refine (credit_copy c 4 _).trans (sep_mono_right ?_)
  refine (credit_copy c 5 _).trans (sep_mono_right ?_)
  exact (credit_copy c 6 _).trans sep_elim_left

/-- The launch's credit of device `c`: seven signals on its barrier, and a copy on each receive semaphore. -/
theorem credit (c : Dev nD) : (Pipeline.launchCred owed₀ c : sProp 𝕄)
    ⊢ iprop(cred (tallyAt (barCell c) () 7) ∗ bigSep Finset.univ fun s => cred (tallyAt (recvCell c s) () N)) := by
  show (Pipeline.launchCred (fun d => owing d slots slots) c : sProp 𝕄) ⊢ _
  iintro H
  ihave H' := (credit_bars c slots slots) $$ H
  icases H' with ⟨Hc, Hb⟩
  isplitl [Hb]; · iexact Hb
  iapply (credit_copies c); iexact Hc

end Cert.KernelIdeal.Exchange
-- ==== Proof.KernelIdeal.Run.lean ====
/-
# The run of the whole program

Every device runs its kernel to the end; its result is `outVal`, its arguments are as they were, and every
semaphore is at zero.
-/
module

public import proofs.«01_k».proof.Proof.KernelIdeal.Setup
public import proofs.«01_k».proof.Proof.Gen.KernelIdeal.Points
public import Idealize.ShloMosaic.Lib.Pipeline.CollectiveSegs

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem anyAt_eq (c : Dev nD) (b : Ref sig .tc) :
    (anyAt c b : sProp 𝕄) = iprop(∃ f : Buf (Elt F) ((c : Thread nD τ).loc b), ((c : Thread nD τ).loc b) ↦{fullShare} f) := rfl
theorem kept_eq (c : Dev nD) (b : Ref sig .tc) :
    (kept m c b : sProp 𝕄) = (((c : Thread nD τ).loc b) ↦{fullShare} m ((c : Thread nD τ).loc b)) := rfl

/-- What device `c` brings to its kernel besides buffers of the launch. -/
def start (c : Dev nD) : sProp 𝕄 :=
  iprop(G' m c ∗ dues c ∗ kept m c main_arg0 ∗ kept m c main_arg1)

/-- The four buffers of the kernel. -/
def scratch (c : Dev nD) : sProp 𝕄 :=
  iprop(anyAt c cc0_scratch0 ∗ anyAt c cc0_scratch1 ∗ anyAt c cc0_scratch2 ∗ anyAt c cc0_scratch3)

def Φ₀ (c : Dev nD) : sProp 𝕄 := iprop(start m c ∗ scratch c)
def Φ₁ (c : Dev nD) : sProp 𝕄 := iprop(rested c ∗ locals c ∗ (kept m c main_arg0 ∗ kept m c main_arg1) ∗ scratch (F := F) c)

/-- The launch's data: the result's staging buffer ends at `outVal`. -/
def dats (_ : Fin 1) (c : Dev nD) : Dat τ (Elt F) Unit ℕ UU ℕ cfg0 c where
  A w := m ((cfg0.win w).arr.view.loc (c : Thread nD τ))
  after w _ := match w with
    | ⟨0, _⟩ => outVal m c
  Φ t := match t with
    | ⟨0, _⟩ => Φ₀ m c
    | ⟨_ + 1, _⟩ => Φ₁ m c
  q _ := fullShare
  owed t := match t with
    | ⟨0, _⟩ => owed₀ c
    | ⟨_ + 1, _⟩ => 0

theorem bigSep_W (Φ : Fin cfg0.W → sProp 𝕄) : bigSep Finset.univ Φ = iprop(Φ (0 : Fin 1)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staging buffer `b` of device `c` at contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the launch gives the body, and what it wants back. -/
def given (c : Dev nD) : sProp 𝕄 :=
  iprop(Φ₀ m c ∗ (dats m 0 c).owesAt () t0_0.castSucc ∗ (∃ d, stg c cc0_stg0_0 ((dats m 0 c).before (0 : Fin 1) t0_0 d)))
def wanted (c : Dev nD) : sProp 𝕄 :=
  iprop(Φ₁ m c ∗ (dats m 0 c).owesAt () t0_0.succ ∗ stg c cc0_stg0_0 (outVal m c))

theorem body_run (c : Dev nD) : given m c ⊢ wp frame (wpE (defs₀ (F := F)) 𝒱₀ (c : Thread nD τ) none) Set.univ
    (cc0_body (Memref.whole main_arg0) (Memref.isWhole_whole _) (Memref.whole main_arg1) (Memref.isWhole_whole _)
      (Memref.whole cc0_stg0_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6) (fun _ => wanted m c) := by
  unfold given Φ₀ start G' Dat.owesAt Pipeline.owesWithin stg
  rw [show (dats m 0 c).owed t0_0.castSucc = owed₀ c from rfl]
  iintro ⟨⟨⟨⟨⟨%K, Hg⟩, Hl⟩, Hd, Hk⟩, Hs⟩, ⟨%W, -, HO⟩, ⟨%d, %f, -, Hout⟩⟩
  iapply (sound_body m K c W fun _ => wanted m c)
  isplitl
  · unfold bodyPre scratch
    isplitl [Hg]; · iexact Hg
    isplitl [Hd]; · iexact Hd
    isplitl [Hl]; · iexact Hl
    isplitl [Hk]; · iexact Hk
    isplitl [Hs]; · iexact Hs
    isplitl [Hout]; · rw [anyAt_eq]; iexists f; iexact Hout
    iexact HO
  · unfold bodyPost wanted Φ₁ scratch Dat.owesAt Pipeline.owesWithin stg
    rw [show (dats m 0 c).owed t0_0.succ = 0 from rfl]
    iintro ⟨Hr, Hl, Hk, Hs, Hout, ⟨%W', HO⟩⟩
    isplitl [Hr Hl Hk Hs]
    · isplitl [Hr]; · iexact Hr
      isplitl [Hl]; · iexact Hl
      isplitl [Hk]; · iexact Hk
      iexact Hs
    isplitl [HO]
    · iexists W'
      isplitr; · ipureintro; exact fun _ _ => Or.inl trivial
      iexact HO
    · iexists _; isplitr; · (ipureintro; rfl)
      iexact Hout

theorem body_obligation (c : Dev nD) : BodyObligation (dats (F := F) m 0 c) (defs₀ (F := F)) 𝒱₀ () Set.univ := fun t => by
  rw [fin_N0 t]
  rw [bigSep_W, bigSep_W]
  simp only [owns_whole_eq]
  exact body_run m c

/-! ## Around the kernel -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ kept m c main_arg2) := by
  rw [show (Pipeline.unscopedRestP Pipeline.Prefetch.none cfg0.spec c (fun b => m ((c : Thread nD τ).loc b)) : sProp 𝕄)
    = Pipeline.unscopedRest spec0 c (fun b => m ((c : Thread nD τ).loc b)) from Pipeline.unscopedRestP_none _ _ _, unscopedRest0_eq]
  unfold start
  rw [kept_eq, kept_eq, kept_eq]
  iintro ⟨⟨H0, H1, H2⟩, Hlev, Hcr, -, HG⟩
  ihave Hc := (credit (F := F) c) $$ Hcr
  icases Hc with ⟨Hb, Hr⟩
  imodintro
  isplitr [H2]
  · unfold dues
    isplitl [HG]; · iexact HG
    isplitl [Hb Hr Hlev]
    · isplitl [Hb]; · iexact Hb
      isplitl [Hr] <;> iassumption
    isplitl [H0]; · iexact H0
    iexact H1
  · iexact H2

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What is left to look at in the end: the barrier, and the two arguments read. -/
def left (c : Dev nD) : sProp 𝕄 := iprop(unscopedSems0 c ∗ kept m c main_arg0 ∗ kept m c main_arg1)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq, ownSems0_eq]
  unfold left Φ₁ rested scratch
  rw [unscopedSems0_eq]
  iintro ⟨⟨Hb, Hs, Hv⟩, Hl, Hk, Hr⟩
  isplitl [Hb Hk]
  · isplitl [Hb] <;> iassumption
  isplitl [Hs Hv Hl]
  · isplitl [Hs Hv]
    · isplitl [Hs] <;> iassumption
    iexact Hl
  iexact Hr

theorem waits (c : Dev nD) : (levAts L lv : sProp 𝕄) ⊢ Pipeline.cellsWaits cfgs (dats m) () 0 c :=
  Pipeline.cellsWaits_intro cfgs (dats m) () 0 c fun w s t => by
    have h (ss gs) := mayWait_low (F := F) c ((cfg0.win w).sem s) (by revert w s; decide) ss gs
    rcases t with ⟨_ | _, ht⟩
    · exact h slots slots
    · exact h [] []

/-! ## The run -/

/-- The result array of device `c` ends at `outVal`. -/
theorem final_out (c : Dev nD) : (dats m 0 c).arrAt (0 : Fin 1) cfg0.N = outVal m c := by
  have h1 : ((cfg0.win (0 : Fin 1)).blk t0_0).view.read (Elt F) ((dats m 0 c).arrAt (0 : Fin 1) cfg0.N) = outVal m c := by
    rw [show cfg0.N = t0_0.val + 1 from rfl, (dats m 0 c).arrAt_succ (0 : Fin 1) t0_0, flush0_0, if_pos rfl]
    exact View.read_write_univ _ _
  have hz : (fun a => (win0_0.index t0_0) a * main_v1.ty.shape.size a) = fun _ => 0 :=
    funext fun a => by fin_cases a <;> decide
  exact (Memref.read_access_unit_zero (Elt F) main_v1 hz (fun a => by fin_cases a <;> decide) _).symm.trans h1

theorem read_kept (c : Dev nD) (b : Ref sig .tc) (s : Phys nD τ sig (Elt F)) :
    iprop(kept m c b ∗ SI s) ⊢ (iprop(⌜s.mem.mem ((c : Thread nD τ).loc b) = m ((c : Thread nD τ).loc b)⌝ ∗ SI s) : sProp 𝕄) := by
  rw [kept_eq]
  iintro ⟨Hb, HSI⟩
  icombine HSI Hb gives %h
  isplitr
  · ipureintro; exact Buf.eq_of_forall_mem_univ h
  · iexact HSI

/-- From any memory and any generator registers, with all semaphores at zero: the program ends on every device; the
    result is `outVal`, the arguments are unchanged, and all semaphores are at zero. -/
theorem run_main : θ_run defs (onTc (τ := τ) (main (F := F))) ⟨m, fun _ => 0, ρ⟩ (fun r => (∀ c : Dev nD,
      r.2.mem ((c : Thread nD τ).loc main_v1) = outVal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_parts _ _) $$ Hu
      icases H with ⟨HP, HX⟩
      imod (fund_exch m) $$ HX with HG
      imodintro
      isplitl [HP] <;> iassumption)
    (hglob := glob m)
    (hA := fun _ _ => rfl) (hpf := fun _ k => k.elim0)
    (X := start m) (Y := left m) (Z := fun c => kept m c main_arg2)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hY := fun c s' => by
      unfold left
      iintro ⟨⟨Hu, H0, H1⟩, H2, HSI⟩
      ihave H := (read_kept m c main_arg0 s') $$ [H0 HSI]
      · isplitl [H0] <;> iassumption
      icases H with ⟨%h0, HSI⟩
      ihave H := (read_kept m c main_arg1 s') $$ [H1 HSI]
      · isplitl [H1] <;> iassumption
      icases H with ⟨%h1, HSI⟩
      ihave H := (read_kept m c main_arg2 s') $$ [H2 HSI]
      · isplitl [H2] <;> iassumption
      icases H with ⟨%h2, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hs, h0, h1, h2⟩
      · iexact HSI)
    (hQ := fun _ h hs => ⟨fun c => ⟨((h c).1 (0 : Fin 1)).trans (final_out m c), (h c).2.2.2⟩, sem_eq_zero hs fun c => (h c).2.2.1⟩)

end Cert.KernelIdeal.Exchange
-- ==== Proof.Math.Row.lean ====
/- One row of the normalisation over the extended reals: its mean, its variance, and its normalised entries; and that the reciprocal root
   the kernel takes is the reference's one divided by a root. -/
module

public import Idealize.ShloMosaic.Lib.Pointwise

@[expose] public section

noncomputable section

namespace Cert.Sums

open Idealize.ShloMosaic

/-- The number of columns, and the small number added to the variance, as the programs' constants denote them. -/
def width : EReal := Ideal.ofBits .f32 0x45000000#32
def eps : EReal := Ideal.ofBits .f32 0x3727C5AC#32

/-- The mean of a row, its variance, and its entry `k` normalised. -/
def mean (f : Fin 2048 → EReal) : EReal := Ideal.div (∑ k, f k) width
def var (f : Fin 2048 → EReal) : EReal := Ideal.div (∑ k, (f k - mean f) * (f k - mean f)) width
def normal (f : Fin 2048 → EReal) (k : Fin 2048) : EReal := (f k - mean f) * Ideal.rsqrt (var f + eps)

/-- What a row of `x` and the same row of `dy` add to entry `k` of the first (`b = 0`) or second result row. -/
def term (f g : Fin 2048 → EReal) (b : Fin 2) (k : Fin 2048) : EReal := if b = 0 then g k * normal f k else g k

theorem width_eq : width = ((2048 : ℝ) : EReal) := by
  have h1 : (0x45000000#32 : BitVec 32).extractLsb' 31 1 = 0#1 := by decide
  have h2 : ((0x45000000#32 : BitVec 32).extractLsb' 23 8).toNat = 138 := by decide
  have h3 : ((0x45000000#32 : BitVec 32).extractLsb' 0 23).toNat = 0 := by decide
  simp only [width, Ideal.ofBits, Ideal.ieee, h1, h2, h3]
  norm_num

theorem eps_pos : 0 < eps := by
  have h1 : (0x3727C5AC#32 : BitVec 32).extractLsb' 31 1 = 0#1 := by decide
  have h2 : ((0x3727C5AC#32 : BitVec 32).extractLsb' 23 8).toNat = 110 := by decide
  have h3 : ((0x3727C5AC#32 : BitVec 32).extractLsb' 0 23).toNat = 2606508 := by decide
  simp only [eps, Ideal.ofBits, Ideal.ieee, h1, h2, h3]
  norm_num

/-- A square is not negative, at the infinities too. -/
theorem square_nonneg (a : EReal) : 0 ≤ a * a := by
  induction a with
  | bot => simp
  | top => simp
  | coe r => exact_mod_cast mul_self_nonneg r

theorem var_nonneg (f : Fin 2048 → EReal) : 0 ≤ var f := by
  have hs : 0 ≤ ∑ k, (f k - mean f) * (f k - mean f) := Finset.sum_nonneg fun k _ => square_nonneg _
  have hw : width ≠ 0 := by rw [width_eq]; norm_num
  have hi : 0 ≤ width⁻¹ := by rw [width_eq, ← EReal.coe_inv]; exact_mod_cast (by norm_num : (0:ℝ) ≤ 2048⁻¹)
  rw [var, Ideal.div, if_neg hw]
  exact mul_nonneg hs hi

theorem var_add_eps_pos (f : Fin 2048 → EReal) : 0 < var f + eps :=
  lt_of_lt_of_le eps_pos (le_add_of_nonneg_left (var_nonneg f))

/-- One divided by the root of a positive number is its reciprocal root. -/
theorem one_div_sqrt (v : EReal) (hv : 0 < v) : Ideal.div 1 (Ideal.sqrt v) = Ideal.rsqrt v := by
  induction v with
  | bot => simp at hv
  | top => simp [Ideal.div]
  | coe r =>
    have hr : 0 < r := by exact_mod_cast hv
    have hs : (Real.sqrt r : EReal) ≠ 0 := by exact_mod_cast (Real.sqrt_pos.2 hr).ne'
    rw [Ideal.sqrt_coe, Ideal.rsqrt_coe, if_neg hr.not_gt, if_neg hr.not_gt, if_neg hr.ne', Ideal.div, if_neg hs, one_mul,
      EReal.coe_inv]

end Cert.Sums
-- ==== Proof.Math.Tile.lean ====
/- What one tile adds to a device's partial sum. -/
module

public import proofs.«01_k».proof.Proof.KernelIdeal.Mesh
public import proofs.«01_k».proof.Proof.Math.Row
public import Idealize.ShloMosaic.Lib.ValueIdxCore

@[expose] public section

set_option maxRecDepth 16384

noncomputable section

namespace Cert.Sums

open Idealize.ShloMosaic Cert.KernelIdeal Cert.KernelIdeal.Gen Cert.KernelIdeal.Exchange

variable (m : (ℓ : Loc nD τ sig) → Buf (Elt Ideal) ℓ)

/-- The kernel's step on one tile adds, at each entry of the partial sum, the tile's 256 rows' terms. -/
theorem pay3_apply (a : FVec Ideal S2x2048 .f32) (x y : Vec Ideal S1x256x2048 .f32) (j : S2x2048.Idx) :
    k0_pay3 a x y j = a j + ∑ r : Fin 256, term (fun k => x (ix3 0 r k)) (fun k => y (ix3 0 r k)) (j 0) (j 1) := by
  idx_vars j
  pointwise [k0_pay3]
  congr 1
  match j0 with
  | 0 => exact (dif_pos Nat.zero_lt_one).trans (Finset.sum_congr rfl fun r _ => (if_pos rfl).symm)
  | 1 => exact (dif_neg (Nat.lt_irrefl 1)).trans (Finset.sum_congr rfl fun r _ => (if_neg one_ne_zero).symm)

/-- The four tiles' steps are the same function. -/
theorem pay4_eq : @k0_pay4 Ideal = @k0_pay3 Ideal := rfl
theorem pay5_eq : @k0_pay5 Ideal = @k0_pay3 Ideal := rfl
theorem pay6_eq : @k0_pay6 Ideal = @k0_pay3 Ideal := rfl

/-- The sum starts at zero. -/
theorem pay2_apply (j : S2x2048.Idx) : k0_pay2 (F := Ideal) j = 0 := by pointwise [k0_pay2]

/-- What tile `t` adds to entry `j` of device `c`'s partial sum. -/
def tileSum (c : Dev nD) (t : Fin 4) (j : S2x2048.Idx) : EReal :=
  ∑ r : Fin 256, term (fun k => xB m c (ix2 (tileRow c t r) k)) (fun k => dyB m c (ix2 (tileRow c t r) k)) (j 0) (j 1)

theorem step_tile (a : FVec Ideal S2x2048 .f32) (c : Dev nD) (t : Fin 4) (j : S2x2048.Idx) :
    k0_pay3 a (tile (xB m c) c t) (tile (dyB m c) c t) j = a j + tileSum m c t j := by
  rw [pay3_apply]
  unfold tile
  rfl

/-- A device's partial sum is the sum of its four tiles. -/
theorem acc4_apply (c : Dev nD) (j : S2x2048.Idx) : acc4 m c j = ∑ t : Fin 4, tileSum m c t j := by
  unfold acc4 acc3 acc2 acc1
  rw [pay4_eq, pay5_eq, pay6_eq, step_tile, step_tile, step_tile, step_tile, pay2_apply, zero_add, Fin.sum_univ_four]

/-- What a device sends is its partial sum. -/
theorem accVal_eq (c : Dev nD) : accVal m c = acc4 m c := by
  unfold accVal acc4
  funext j
  idx_vars j
  pointwise [k0_pay7]

/-- The result of device `c`: its own partial sum and those of the seven devices whose copies it receives. -/
theorem outVal_apply (c : Dev nD) (j : S2x2048.Idx) :
    outVal m c j = (∑ t : Fin 4, tileSum m c t j) + ∑ s : Fin 7, ∑ t : Fin 4, tileSum m (fwd (inv s) c) t j := by
  simp only [← acc4_apply, Fin.sum_univ_seven, ← add_assoc]
  unfold outVal got
  simp only [accVal_eq]
  idx_vars j
  pointwise [k0_pay1, k0_pay8, k0_pay9, k0_pay10, k0_pay11]
  rfl

end Cert.Sums
-- ==== Proof.Math.Plane.lean ====
/- The kernel's result as a sum over all rows of the whole arrays. The eight devices which exchange partial sums hold, between them, every
   row once: the four blocks along z, each halved along x. -/
module

public import proofs.«01_k».proof.Proof.Math.Tile
public import Idealize.ShloMosaic.Lib.Layout

@[expose] public section

set_option maxRecDepth 16384

noncomputable section

namespace Cert.Sums

open Idealize.ShloMosaic Cert.KernelIdeal Cert.KernelIdeal.Gen Cert.KernelIdeal.Exchange

/-- A sum over `m * n` consecutive numbers, cut into `m` runs of `n`. -/
theorem sum_runs {m n N : ℕ} (h : m * n = N) (f : Fin N → EReal) :
    ∑ q, f q = ∑ i : Fin m, ∑ j : Fin n, f ⟨n * i.val + j.val, by
      have := i.isLt; have := j.isLt; subst h
      calc n * i.val + j.val < n * i.val + n := by omega
        _ = n * (i.val + 1) := by ring
        _ ≤ n * m := Nat.mul_le_mul_left _ (by omega)
        _ = m * n := Nat.mul_comm _ _⟩ := by
  subst h
  rw [← finProdFinEquiv.sum_comp, Fintype.sum_prod_type]
  refine Finset.sum_congr rfl fun i _ => Finset.sum_congr rfl fun j _ => congrArg f (Fin.ext ?_)
  simp [finProdFinEquiv, Nat.add_comm]

/-- An array of all 8192 rows. -/
abbrev Whole := FVec Ideal (⟨2, ![8192, 2048]⟩ : Shape) .f32

/-- What row `q` of the whole arrays adds to entry `j`. -/
def rowTerm (X Y : Whole) (j : S2x2048.Idx) (q : Fin 8192) : EReal :=
  term (fun k => X (ix2 q k)) (fun k => Y (ix2 q k)) (j 0) (j 1)

/-- The sum over half `a` of block `z`. -/
def half (X Y : Whole) (j : S2x2048.Idx) (a : Fin 2) (z : Fin 4) : EReal :=
  ∑ t : Fin 4, ∑ r : Fin 256, rowTerm X Y j ⟨2048 * z.val + (1024 * a.val + (256 * t.val + r.val)), by omega⟩

/-- The halves of the four blocks are all the rows. -/
theorem sum_halves (X Y : Whole) (j : S2x2048.Idx) : ∑ q, rowTerm X Y j q = ∑ z : Fin 4, ∑ a : Fin 2, half X Y j a z := by
  rw [sum_runs (m := 4) (n := 2048) rfl]
  refine Finset.sum_congr rfl fun z _ => ?_
  rw [sum_runs (m := 2) (n := 1024) rfl]
  refine Finset.sum_congr rfl fun a _ => ?_
  rw [sum_runs (m := 4) (n := 256) rfl]
  rfl

/-- A device's place along x and along z. -/
def px (c : Dev nD) : Fin 2 := ⟨c.val / 16, by have := c.isLt; have : nD = 32 := rfl; omega⟩
def pz (c : Dev nD) : Fin 4 := ⟨c.val % 4, by omega⟩

/-- The displacement of slot `s`, along x and along z. -/
def goX (s : Fin 7) (a : Fin 2) : Fin 2 := ⟨(a.val + dx s) % 2, by omega⟩
def goZ (s : Fin 7) (z : Fin 4) : Fin 4 := ⟨(z.val + dz s) % 4, by omega⟩

/-- Where the peers stand. -/
theorem px_fwd (s : Fin 7) (c : Dev nD) : px (fwd s c) = goX s (px c) := by
  refine Fin.ext ?_
  simp only [px, goX, fwd]
  omega
theorem pz_fwd (s : Fin 7) (c : Dev nD) : pz (fwd s c) = goZ s (pz c) := by
  refine Fin.ext ?_
  simp only [pz, goZ, fwd]
  omega

/-- A device's own place in its plane, and then those of the peers whose copies come to it. -/
def places (a : Fin 2) (z : Fin 4) : Fin 8 → Fin 2 × Fin 4 :=
  Fin.cons (a, z) fun s : Fin 7 => (goX (Exchange.inv s) a, goZ (Exchange.inv s) z)

/-- They are the eight places of the plane, each once. -/
theorem places_bijective : ∀ (a : Fin 2) (z : Fin 4), Function.Bijective (places a z) := by decide

/-- So a sum over a device and its seven peers is a sum over the plane. -/
theorem plane_sum (g : Fin 2 → Fin 4 → EReal) (c : Dev nD) :
    g (px c) (pz c) + ∑ s : Fin 7, g (px (fwd (Exchange.inv s) c)) (pz (fwd (Exchange.inv s) c)) = ∑ z : Fin 4, ∑ a : Fin 2, g a z := by
  have h := (places_bijective (px c) (pz c)).sum_comp fun p => g p.1 p.2
  rw [Fintype.sum_prod_type_right, Fin.sum_univ_succ] at h
  simp only [px_fwd, pz_fwd]
  exact h

/-- Device `c`'s block of a whole array. -/
abbrev blk (c : Dev nD) (X : Whole) : Vec Ideal S2048x2048 .f32 :=
  Layout.blockN ⟨2, ![2048, 2048]⟩ ⟨2, ![8192, 2048]⟩ (Layout.meshBlock [2, 4, 4] ![[2], []] c) X

variable (m : (ℓ : Loc nD τ sig) → Buf (Elt Ideal) ℓ)

/-- Row `q` of device `c`'s block is row `2048 z + q` of the whole array. -/
theorem block_row (X : Whole) (c : Dev nD) (q k : Fin 2048) :
    blk c X (ix2 q k) = X (ix2 ⟨2048 * (pz c).val + q.val, by have := (pz c).isLt; omega⟩ k) := by
  rw [blk, Layout.blockN_apply]
  refine congrArg X (funext fun b => Fin.ext ?_)
  match b with
  | 0 =>
    show (Layout.meshLin [2, 4, 4] c.val [2]) * 2048 + q.val = 2048 * (c.val % 4) + q.val
    simp [Layout.meshLin, Layout.meshCoord, Layout.cutSize]
    omega
  | 1 =>
    show (Layout.meshLin [2, 4, 4] c.val []) * 2048 + k.val = k.val
    simp [Layout.meshLin]

/-- Row `r` of tile `t` of device `c` is a row of the half block at the device's place. -/
theorem tile_row (X : Whole) (c : Dev nD) (t : Fin 4) (r : Fin 256) :
    (fun k => blk c X (ix2 (tileRow c t r) k))
      = fun k => X (ix2 ⟨2048 * (pz c).val + (1024 * (px c).val + (256 * t.val + r.val)), by have := (pz c).isLt; have := (px c).isLt; omega⟩ k) := by
  funext k
  rw [block_row]
  refine congrArg (fun q => X (ix2 q k)) (Fin.ext ?_)
  simp only [tileRow, px]
  omega

/-- What device `c` adds up, in terms of the whole arrays. -/
theorem tiles_half (X Y : Whole) (c : Dev nD) (j : S2x2048.Idx)
    (hx : m ((c.tc : Thread nD τ).loc main_arg0) = blk c X)
    (hy : m ((c.tc : Thread nD τ).loc main_arg1) = blk c Y) :
    ∑ t : Fin 4, tileSum m c t j = half X Y j (px c) (pz c) := by
  unfold tileSum xB dyB
  rw [hx, hy]
  refine Finset.sum_congr rfl fun t _ => Finset.sum_congr rfl fun r _ => ?_
  exact congrArg₂ (fun f g => term f g (j 0) (j 1)) (tile_row X c t r) (tile_row Y c t r)

/-- The kernel's result on every device: the sum of all rows' terms. -/
theorem outVal_eq (X Y : Whole) (c : Dev nD) (j : S2x2048.Idx)
    (hx : ∀ c : Dev nD, m ((c.tc : Thread nD τ).loc main_arg0) = blk c X)
    (hy : ∀ c : Dev nD, m ((c.tc : Thread nD τ).loc main_arg1) = blk c Y) :
    outVal m c j = ∑ q, rowTerm X Y j q := by
  rw [outVal_apply]
  simp only [fun c => tiles_half m X Y c j (hx c) (hy c)]
  rw [plane_sum (half X Y j), sum_halves]

end Cert.Sums
-- ==== Proof.Math.Reference.lean ====
/- The reference's run: it ends with the sum of all rows' terms in its result, its arguments as they were, and every semaphore at zero. -/
module

public import proofs.«01_k».proof.Proof.Gen.ReferenceIdeal.Run
public import proofs.«01_k».proof.Proof.Math.Row
public import Idealize.ShloMosaic.Lib.Quiescent

@[expose] public section

set_option maxRecDepth 16384

noncomputable section

namespace Cert.Sums.Reference

open Idealize.ShloMosaic Idealize.SL.Sem Cert.ReferenceIdeal Cert.ReferenceIdeal.Gen

variable (m : (ℓ : Loc nD τ sig) → Buf (Elt Ideal) ℓ)

/-- The two arguments which the reference reads. -/
abbrev X : FVec Ideal S8192x2048 .f32 := m (((0 : Dev nD).tc : Thread nD τ).loc main_arg0)
abbrev Y : FVec Ideal S8192x2048 .f32 := m (((0 : Dev nD).tc : Thread nD τ).loc main_arg1)

/-- What the reference returns: at each entry, the sum over all rows of their terms. -/
def value : FVec Ideal S2x2048 .f32 := fun j =>
  ∑ q : Fin 8192, term (fun k => X m (ix2 q k)) (fun k => Y m (ix2 q k)) (j 0) (j 1)

/-- The variance's divisor is the number of columns: nothing is taken off it. -/
theorem width_sub : Ideal.ofBits .f32 0x45000000#32 - (FloatOps.sitofp (F := Ideal) .f32 (0#32 : BitVec 32) : EReal) = width := by
  have h : (FloatOps.sitofp (F := Ideal) .f32 (0#32 : BitVec 32) : EReal) = 0 := by
    show (((BitVec.toInt (0#32 : BitVec 32) : ℤ) : ℝ) : EReal) = 0
    simp
  rw [h, sub_zero]
  rfl

theorem width_pos : 0 < width := by rw [width_eq]; norm_num

/-- Every execution of the reference ends with `value` in its result. -/
theorem run_main (ρ : Dev nD → PrngReg) :
    θ_run (defs (F := Ideal)) (onTc (τ := τ) (main (F := Ideal))) ⟨m, fun _ => 0, ρ⟩ fun r =>
      (∀ c : Dev nD, r.2.mem ((c.tc : Thread nD τ).loc main_v19) = value m
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 := by
  refine (θ_run defs _ _).mono (fun r h => ⟨fun c => ⟨(h c).1.trans ?_, (h c).2⟩, sem_eq_zero_of_no_sems (by decide) _⟩) (Value.run m ρ)
  obtain rfl : c = 0 := Subsingleton.elim _ _
  change _ = (value m : FVec Ideal S2x2048 .f32)
  unfold value
  funext j
  idx_vars j
  pointwise
  rw [width_sub]
  simp only [if_pos width_pos]
  match j0 with
  | 0 =>
    refine (dif_pos Nat.zero_lt_one).trans (Finset.sum_congr rfl fun q _ => ?_)
    have h := one_div_sqrt _ (var_add_eps_pos fun k => X m (ix2 q k))
    refine Eq.trans ?_ (if_pos rfl).symm
    refine congrArg (Y m (ix2 q j1) * ·) (congrArg ((X m (ix2 q j1) - mean fun k => X m (ix2 q k)) * ·) h)
  | 1 => exact (dif_neg (Nat.lt_irrefl 1)).trans (Finset.sum_congr rfl fun q _ => (if_neg one_ne_zero).symm)

end Cert.Sums.Reference
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Math.Plane
public import proofs.«01_k».proof.Proof.Math.Reference
public import Idealize.ShloMosaic.Adequacy
public import Idealize.ShloMosaic.Init

@[expose] public section

noncomputable section

namespace Cert.Proof

open Idealize.ShloMosaic Idealize.SL.Sem

/-- The kernel runs, its arguments end unchanged, and every semaphore ends at zero. -/
theorem frame_kernel : Cert.quiescent_Kernel (hKernel := Cert.Kernel.Gen.facts) := fun m g _ =>
  (θ_run Cert.Kernel.defs _ _).mono (fun _ h => ⟨fun c => (h.1 c).2, h.2⟩) (Cert.Kernel.Exchange.run_main m g)

/-- The same of the kernel read over the extended reals. -/
theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Exchange.run_main m g)

/-- The same of the reference. -/
theorem frame_referenceIdeal : Cert.quiescent_ReferenceIdeal (hReferenceIdeal := Cert.ReferenceIdeal.Gen.facts) := fun m g _ =>
  (θ_run Cert.ReferenceIdeal.defs _ _).mono (fun _ h => ⟨fun c => (h.1 c).2, h.2⟩) (Cert.Sums.Reference.run_main m g)

/-- The kernel on 32 devices and the reference on one end with the same result: the sum of all rows' terms. -/
theorem algebraic : Cert.algebraic_KernelIdeal_ReferenceIdeal (hKernelIdeal := Cert.KernelIdeal.Gen.facts)
    (hReferenceIdeal := Cert.ReferenceIdeal.Gen.facts) := fun m g m' g' _ hm =>
  ⟨Cert.Sums.Reference.value m',
    (θ_run Cert.KernelIdeal.defs _ _).mono
      (fun _ h c => ⟨(h.1 c).1.trans (funext fun j => Cert.Sums.outVal_eq m (Cert.Sums.Reference.X m') (Cert.Sums.Reference.Y m') c j
        (fun c => (hm c).1) fun c => (hm c).2.1), (h.1 c).2⟩)
      (Cert.KernelIdeal.Exchange.run_main m g),
    (θ_run Cert.ReferenceIdeal.defs _ _).mono (fun _ h => h.1 0) (Cert.Sums.Reference.run_main m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
